-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S100000x128 : Shape := ⟨2, ![100000, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x128 .f32) (main_arg3 : FVec F S100000x128 .f32) (main_arg4 : FVec F S256x256 .f32) (main_arg5 : FVec F S256 .f32) (main_arg6 : FVec F S256x256 .f32) (main_arg7 : FVec F S256 .f32) (main_arg8 : FVec F S1x256 .f32) (main_arg9 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S100000x128 : Shape := ⟨2, ![100000, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S8192x128 : Shape := ⟨2, ![8192, 128]⟩
abbrev S256x128 : Shape := ⟨2, ![256, 128]⟩
abbrev S_ : Shape := ⟨0, ![]⟩
abbrev S1x1 : Shape := ⟨2, ![1, 1]⟩
abbrev S1x8192 : Shape := ⟨2, ![1, 8192]⟩
abbrev S2048x128 : Shape := ⟨2, ![2048, 128]⟩
abbrev S1x4096 : Shape := ⟨2, ![1, 4096]⟩
abbrev S2048x256 : Shape := ⟨2, ![2048, 256]⟩
abbrev S1x2048 : Shape := ⟨2, ![1, 2048]⟩
abbrev S1x16384 : Shape := ⟨2, ![1, 16384]⟩
abbrev S16384x1 : Shape := ⟨2, ![16384, 1]⟩

abbrev nBuf : Table → Nat
  | .hbm => 24
  | .local .tc .vmem => 32
  | .local .scVector .vmem => 8
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S1x256, .f32⟩
  | .hbm, ⟨15, _⟩ => ⟨S1x256, .f32⟩
  | .hbm, ⟨16, _⟩ => ⟨S1x1, .f32⟩
  | .hbm, ⟨17, _⟩ => ⟨S1x8192, .f32⟩
  | .hbm, ⟨18, _⟩ => ⟨S1x256, .f32⟩
  | .hbm, ⟨19, _⟩ => ⟨S1x256, .f32⟩
  | .hbm, ⟨20, _⟩ => ⟨S1x1, .f32⟩
  | .hbm, ⟨21, _⟩ => ⟨S1x8192, .f32⟩
  | .hbm, ⟨22, _⟩ => ⟨S1x16384, .f32⟩
  | .hbm, ⟨23, _⟩ => ⟨S16384x1, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S2048x128, .f32⟩
  | .local .tc .vmem, ⟨7, _⟩ => ⟨S2048x128, .f32⟩
  | .local .tc .vmem, ⟨8, _⟩ => ⟨S256x256, .f32⟩
  | .local .tc .vmem, ⟨9, _⟩ => ⟨S1x256, .f32⟩
  | .local .tc .vmem, ⟨10, _⟩ => ⟨S256x256, .f32⟩
  | .local .tc .vmem, ⟨11, _⟩ => ⟨S1x256, .f32⟩
  | .local .tc .vmem, ⟨12, _⟩ => ⟨S1x256, .f32⟩
  | .local .tc .vmem, ⟨13, _⟩ => ⟨S1x1, .f32⟩
  | .local .tc .vmem, ⟨14, _⟩ => ⟨S1x4096, .f32⟩
  | .local .tc .vmem, ⟨15, _⟩ => ⟨S1x4096, .f32⟩
  | .local .tc .vmem, ⟨16, _⟩ => ⟨S2048x128, .f32⟩
  | .local .tc .vmem, ⟨17, _⟩ => ⟨S2048x128, .f32⟩
  | .local .tc .vmem, ⟨18, _⟩ => ⟨S2048x128, .f32⟩
  | .local .tc .vmem, ⟨19, _⟩ => ⟨S2048x128, .f32⟩
  | .local .tc .vmem, ⟨20, _⟩ => ⟨S2048x128, .f32⟩
  | .local .tc .vmem, ⟨21, _⟩ => ⟨S2048x128, .f32⟩
  | .local .tc .vmem, ⟨22, _⟩ => ⟨S2048x128, .f32⟩
  | .local .tc .vmem, ⟨23, _⟩ => ⟨S2048x128, .f32⟩
  | .local .tc .vmem, ⟨24, _⟩ => ⟨S256x256, .f32⟩
  | .local .tc .vmem, ⟨25, _⟩ => ⟨S1x256, .f32⟩
  | .local .tc .vmem, ⟨26, _⟩ => ⟨S256x256, .f32⟩
  | .local .tc .vmem, ⟨27, _⟩ => ⟨S1x256, .f32⟩
  | .local .tc .vmem, ⟨28, _⟩ => ⟨S1x256, .f32⟩
  | .local .tc .vmem, ⟨29, _⟩ => ⟨S1x1, .f32⟩
  | .local .tc .vmem, ⟨30, _⟩ => ⟨S1x4096, .f32⟩
  | .local .tc .vmem, ⟨31, _⟩ => ⟨S1x4096, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | .local .scVector .vmem, ⟨4, _⟩ => ⟨S256, .i32⟩
  | .local .scVector .vmem, ⟨5, _⟩ => ⟨S256, .i32⟩
  | .local .scVector .vmem, ⟨6, _⟩ => ⟨S256x128, .f32⟩
  | .local .scVector .vmem, ⟨7, _⟩ => ⟨S256x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_arg2_scv : Ref sig .scVector := ⟨.hbm, 2, rfl⟩
abbrev main_arg3_scv : Ref sig .scVector := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 10, rfl⟩
abbrev main_v0_1_scv : Ref sig .scVector := ⟨.hbm, 11, rfl⟩
abbrev main_v1_0_scv : Ref sig .scVector := ⟨.hbm, 12, rfl⟩
abbrev main_v1_1_scv : Ref sig .scVector := ⟨.hbm, 13, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg3_1 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg8_0 : Ref sig .tc := ⟨.vmem, 12, rfl⟩
abbrev cc2_stg9_0 : Ref sig .tc := ⟨.vmem, 13, rfl⟩
abbrev cc2_stg10_0 : Ref sig .tc := ⟨.vmem, 14, rfl⟩
abbrev cc2_stg10_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc3_stg9_0 : Ref sig .tc := ⟨.vmem, 29, rfl⟩
abbrev cc3_stg10_0 : Ref sig .tc := ⟨.vmem, 30, rfl⟩
abbrev cc3_stg10_1 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem10_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c0_i32 v2
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let v11 : BitVec 32 := Scalar.addi v2 c0_i32_10
  let c0_i32_11 : BitVec 32 := 0#32
  ![v11.toNat, 0]
abbrev grid1 : Pipeline.Grid := ⟨2, ![2, 16], ![false, false]⟩

def k1_off1 (i : grid1.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c8192_i32 v2
  ![v3.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_9 : BitVec 32 := 0#32
  let v11 : BitVec 32 := Scalar.addi v2 c0_i32_9
  let c0_i32_10 : BitVec 32 := 0#32
  ![v11.toNat, 0]
abbrev grid2 : Pipeline.Grid := ⟨1, ![2], ![false]⟩

def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1x4096 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1x4096 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S100000x128 : Shape := ⟨2, ![100000, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S256x1 : Shape := ⟨2, ![256, 1]⟩

abbrev nBuf : Space → Nat
  | .hbm => 88
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x128, .f32⟩
  | .hbm, ⟨29, _⟩ => ⟨S16384x128, .i1⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S16384x256, .f32⟩
  | .hbm, ⟨57, _⟩ => ⟨S256x256, .f32⟩
  | .hbm, ⟨58, _⟩ => ⟨S16384x256, .f32⟩
  | .hbm, ⟨59, _⟩ => ⟨S1x256, .f32⟩
  | .hbm, ⟨60, _⟩ => ⟨S16384x256, .f32⟩
  | .hbm, ⟨61, _⟩ => ⟨S16384x256, .f32⟩
  | .hbm, ⟨62, _⟩ => ⟨S_, .f32⟩
  | .hbm, ⟨63, _⟩ => ⟨S_, .f32⟩
  | .hbm, ⟨64, _⟩ => ⟨S16384x256, .f32⟩
  | .hbm, ⟨65, _⟩ => ⟨S16384x256, .i1⟩
  | .hbm, ⟨66, _⟩ => ⟨S_, .f32⟩
  | .hbm, ⟨67, _⟩ => ⟨S16384x256, .f32⟩
  | .hbm, ⟨68, _⟩ => ⟨S16384x256, .f32⟩
  | .hbm, ⟨69, _⟩ => ⟨S16384x256, .f32⟩
  | .hbm, ⟨70, _⟩ => ⟨S256x256, .f32⟩
  | .hbm, ⟨71, _⟩ => ⟨S16384x256, .f32⟩
  | .hbm, ⟨72, _⟩ => ⟨S1x256, .f32⟩
  | .hbm, ⟨73, _⟩ => ⟨S16384x256, .f32⟩
  | .hbm, ⟨74, _⟩ => ⟨S16384x256, .f32⟩
  | .hbm, ⟨75, _⟩ => ⟨S_, .f32⟩
  | .hbm, ⟨76, _⟩ => ⟨S_, .f32⟩
  | .hbm, ⟨77, _⟩ => ⟨S16384x256, .f32⟩
  | .hbm, ⟨78, _⟩ => ⟨S16384x256, .i1⟩
  | .hbm, ⟨79, _⟩ => ⟨S_, .f32⟩
  | .hbm, ⟨80, _⟩ => ⟨S16384x256, .f32⟩
  | .hbm, ⟨81, _⟩ => ⟨S16384x256, .f32⟩
  | .hbm, ⟨82, _⟩ => ⟨S16384x256, .f32⟩
  | .hbm, ⟨83, _⟩ => ⟨S256x1, .f32⟩
  | .hbm, ⟨84, _⟩ => ⟨S16384x1, .f32⟩
  | .hbm, ⟨85, _⟩ => ⟨S1x1, .f32⟩
  | .hbm, ⟨86, _⟩ => ⟨S16384x1, .f32⟩
  | .hbm, ⟨87, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_cst : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_cst_0 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩

abbrev nD : Nat := 1
abbrev τ : Topo := Topo.v7x

variable {F : FTy → Type} [FloatOps F]
-- ==== Proof.Setup.lean ====
/-
  The program as its proofs see it: the SparseCore calls' configuration, the resource algebra (the handshakes' rounds,
  the two TensorCore pipelines' rounds, the transfers' counters), and the mathematics of a row gather.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Twin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The labels of the TensorCore's program, its two pipelines' among them. -/
abbrev ΛP : Labels := Pipeline.Sig Λ₀ (Fin 2) fun p => (pcfgs (F := F) p).Adm
/-- The two SparseCore calls. -/
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl⟩

/-! ## The resource algebra -/

/-- The handshakes' rounds. -/
abbrev UH : Type := URounds (GSem nD τ sig) ℕ
/-- The pipelines' rounds. -/
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-! ## The row gather -/

/-- The row of a table of 100000 that a word names. -/
def rowIx (w : BitVec 32) : Fin 100000 := ⟨w.toNat % 100000, Nat.mod_lt _ (by decide)⟩

/-- The index of entry `r` of a list of 16384. -/
def ix1 (r : Fin 16384) : S16384.Idx := fun | 0 => r
/-- The index of entry `r` of a fetched list of 256. -/
def ix256 (r : Fin 256) : S256.Idx := fun | 0 => r
/-- The index of column `k` of row `r` of a table. -/
def ixT (r : Fin 100000) (k : Fin 128) : S100000x128.Idx := fun | 0 => r | 1 => k

/-- 256 rows of `W`: row `r` the one entry `start + r` of the list names. -/
def rows256 (x : S16384.Idx → Elt F .i32) (W : S100000x128.Idx → Elt F .f32) (start : ℕ) (h : start + 256 ≤ 16384) :
    S256x128.Idx → Elt F .f32 :=
  fun j => W (ixT (rowIx (x (ix1 ⟨start + (j 0).val, lt_of_lt_of_le (Nat.add_lt_add_left (j 0).isLt start) h⟩))) (j 1))

/-- 8192 rows of `W`: row `r` the one entry `start + r` of the list names. -/
def rows8192 (x : S16384.Idx → Elt F .i32) (W : S100000x128.Idx → Elt F .f32) (start : ℕ) (h : start + 8192 ≤ 16384) :
    S8192x128.Idx → Elt F .f32 :=
  fun j => W (ixT (rowIx (x (ix1 ⟨start + (j 0).val, lt_of_lt_of_le (Nat.add_lt_add_left (j 0).isLt start) h⟩))) (j 1))

end Cert.Proof.Twin

end
-- ==== Proof.Task.lean ====
/-
  One task of a row gather, on a vector subcore: 256 words of each index list are fetched into tile memory, the rows of
  the two tables they name are gathered into tile memory by two indirect streams, and each stream's rows are written to
  a block of an output. Both SparseCore calls run this task: it is stated once, over the offsets, the outputs, the
  scratch and the semaphores.
-/
module

public import proofs.«01_k».proof.Proof.Setup

@[expose] public section

set_option synthInstance.maxSize 4096

noncomputable section

namespace Cert.Proof.Twin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The whole tables and index lists, as a task addresses them. -/
abbrev wuV : Memref sig .scVector .hbm S100000x128 .f32 := Memref.whole main_arg2_scv
abbrev wiV : Memref sig .scVector .hbm S100000x128 .f32 := Memref.whole main_arg3_scv
abbrev xuV : Memref sig .scVector .hbm S16384 .i32 := Memref.whole main_arg0_scv
abbrev xiV : Memref sig .scVector .hbm S16384 .i32 := Memref.whole main_arg1_scv

section Task

variable (c : Fin τ.nSC) (s : Fin τ.nSub)
  (o1 : Fin 1 → ℕ) (h1 : ∀ a, o1 a + S256.size a ≤ S16384.size a)
  (o2 : Fin 2 → ℕ) (h2 : ∀ a, o2 a + S256x128.size a ≤ S8192x128.size a)
  (ou : Memref sig .scVector .hbm S8192x128 .f32) (hou : ou.IsWhole) (oi : Memref sig .scVector .hbm S8192x128 .f32) (hoi : oi.IsWhole)
  (lu : Memref sig .scVector .vmem S256 .i32) (hlu : lu.IsWhole) (li : Memref sig .scVector .vmem S256 .i32) (hli : li.IsWhole)
  (ru : Memref sig .scVector .vmem S256x128 .f32) (hru : ru.IsWhole) (ri : Memref sig .scVector .vmem S256x128 .f32) (hri : ri.IsWhole)
  (gu gi wu wi fu fi : DmaSems sig S_)

/-- The block of 256 entries of an index list that the task fetches. -/
abbrev part1 (x : Memref sig .scVector .hbm S16384 .i32) : Memref sig .scVector .hbm S256 .i32 :=
  x.slice (Rect.unit (s := S16384) o1 S256.size h1) (fun _ => rfl)
/-- The block of 256 rows of an output that the task writes. -/
abbrev part2 (o : Memref sig .scVector .hbm S8192x128 .f32) : Memref sig .scVector .hbm S256x128 .f32 :=
  o.slice (Rect.unit (s := S8192x128) o2 S256x128.size h2) (fun _ => rfl)
/-- All of a table, as the stream addresses it. -/
abbrev allRows (w : Memref sig .scVector .hbm S100000x128 .f32) : Memref sig .scVector .hbm S100000x128 .f32 :=
  w.slice (Rect.unit (s := S100000x128) ![0, 0] S100000x128.size inb_S100000x128_S100000x128_0_0) (fun _ => rfl)
/-- All of a fetched list, as the stream addresses it. -/
abbrev allWords (l : Memref sig .scVector .vmem S256 .i32) : Memref sig .scVector .vmem S256 .i32 :=
  l.slice (Rect.unit (s := S256) ![0] S256.size inb_S256_S256_0) (fun _ => rfl)

/-- The task's first part: the two fetches, the two streams issued, the users' rows awaited and their write-out
    issued, the items' rows awaited. -/
def taskHead : Prog (TpuEff nD τ sig (Elt F) Λ₀ (.scVector c s)) PUnit := do
  Prog.lift (.enqueueDma (part1 o1 h1 xuV) (.here lu) (.dma fu.sem) (View.wordExact_bits rfl) hlu.wordExact ⟨Or.inl rfl, trivial⟩)
  Prog.lift (.waitDma2 fu.sem (part1 o1 h1 xuV) lu (View.wordExact_bits rfl) hlu.wordExact)
  Prog.lift (.enqueueDma (part1 o1 h1 xiV) (.here li) (.dma fi.sem) (View.wordExact_bits rfl) hli.wordExact ⟨Or.inl rfl, trivial⟩)
  Prog.lift (.waitDma2 fi.sem (part1 o1 h1 xiV) li (View.wordExact_bits rfl) hli.wordExact)
  SparseCore.enqueueIndirectGather rfl (allRows wuV) ru gathers_S100000x128_S256x128 (allWords lu) rfl gu.sem (View.wordExact_bits rfl) rfl (Or.inl rfl)
  SparseCore.enqueueIndirectGather rfl (allRows wiV) ri gathers_S100000x128_S256x128 (allWords li) rfl gi.sem (View.wordExact_bits rfl) rfl (Or.inl rfl)
  SparseCore.waitIndirectGather gu.sem (allRows wuV) ru (View.wordExact_bits rfl) hru.wordExact
  Prog.lift (.enqueueDma ru (.here (part2 o2 h2 ou)) (.dma wu.sem) hru.wordExact (View.wordExact_bits rfl) ⟨Or.inl rfl, trivial⟩)
  SparseCore.waitIndirectGather gi.sem (allRows wiV) ri (View.wordExact_bits rfl) hri.wordExact
  pure ⟨⟩

/-- The task. -/
def task : Prog (TpuEff nD τ sig (Elt F) Λ₀ (.scVector c s)) PUnit := do
  taskHead c s o1 h1 o2 h2 ou lu hlu li hli ru hru ri hri gu gi wu fu fi
  Prog.lift (.enqueueDma ri (.here (part2 o2 h2 oi)) (.dma wi.sem) hri.wordExact (View.wordExact_bits rfl) ⟨Or.inl rfl, trivial⟩)
  Prog.lift (.waitDma2 wu.sem ru (part2 o2 h2 ou) hru.wordExact (View.wordExact_bits rfl))
  Prog.lift (.waitDma2 wi.sem ri (part2 o2 h2 oi) hri.wordExact (View.wordExact_bits rfl))
  pure ⟨⟩

end Task

set_option maxRecDepth 65536 in
/-- The first call's kernel is the task at its own offsets. -/
theorem cc0_eq_task (i : grid0.Coords) (ou oi : Memref sig .scVector .hbm S8192x128 .f32) (hou : ou.IsWhole) (hoi : oi.IsWhole)
    (lu li : Memref sig .scVector .vmem S256 .i32) (hlu : lu.IsWhole) (hli : li.IsWhole)
    (ru ri : Memref sig .scVector .vmem S256x128 .f32) (hru : ru.IsWhole) (hri : ri.IsWhole) (gu gi wu wi fu fi : DmaSems sig S_) :
    cc0_gather_kernel (F := F) i wuV (Memref.isWhole_whole _) wiV (Memref.isWhole_whole _) xuV (Memref.isWhole_whole _) xiV (Memref.isWhole_whole _)
        ou hou oi hoi lu hlu li hli ru hru ri hri gu gi wu wi fu fi
      = task ((i 0).castLE hcore0) ((i 1).castLE hsub0) (k0_off1 i) (k0_off1_inb i) (k0_off2 i) (k0_off2_inb i)
          ou oi lu hlu li hli ru hru ri hri gu gi wu wi fu fi := rfl

set_option maxRecDepth 65536 in
/-- The second call's kernel is the task at its own offsets. -/
theorem cc1_eq_task (i : grid1.Coords) (ou oi : Memref sig .scVector .hbm S8192x128 .f32) (hou : ou.IsWhole) (hoi : oi.IsWhole)
    (lu li : Memref sig .scVector .vmem S256 .i32) (hlu : lu.IsWhole) (hli : li.IsWhole)
    (ru ri : Memref sig .scVector .vmem S256x128 .f32) (hru : ru.IsWhole) (hri : ri.IsWhole) (gu gi wu wi fu fi : DmaSems sig S_) :
    cc1_gather_kernel (F := F) i wuV (Memref.isWhole_whole _) wiV (Memref.isWhole_whole _) xuV (Memref.isWhole_whole _) xiV (Memref.isWhole_whole _)
        ou hou oi hoi lu hlu li hli ru hru ri hri gu gi wu wi fu fi
      = task ((i 0).castLE hcore1) ((i 1).castLE hsub1) (k1_off1 i) (k1_off1_inb i) (k1_off2 i) (k1_off2_inb i)
          ou oi lu hlu li hli ru hru ri hri gu gi wu wi fu fi := rfl

end Cert.Proof.Twin

end
-- ==== Proof.TaskRun.lean ====
/-
  The task's run, with the values: each output's block ends with the rows its list's entries name.
-/
module

public import proofs.«01_k».proof.Proof.Task

@[expose] public section

set_option synthInstance.maxSize 4096

noncomputable section

namespace Cert.Proof.Twin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## What the task's transfers leave -/

/-- One store over the whole of a view leaves what was stored. -/
theorem read_stored {sp : Space} {s : Shape} {e : EltTy} (v : View sig .scVector sp s e) (f : v.ty.Contents (Elt F)) (w : s.Idx → Elt F e) :
    v.read (Elt F) (v.writes (Elt F) f [⟨Rect.whole s, w⟩]) = w := by
  funext x
  have h := View.read_slice_write_emb (v := v) (Rect.whole s) f w (M := Finset.univ) (x := x) (Finset.mem_univ _)
  rw [show (Rect.whole s).emb x = x from Rect.emb_whole_apply s x] at h
  exact h

/-- A list written whole into tile memory reads back entry by entry. -/
theorem read_words (l : Memref sig .scVector .vmem S256 .i32) (f : l.view.ty.Contents (Elt F)) (w : S256.Idx → Elt F .i32) :
    (allWords l).view.read (Elt F) (l.view.write (Elt F) f w Finset.univ) = w := by
  funext j
  have h : (Rect.unit (s := S256) ![0] S256.size inb_S256_S256_0).emb j = j := by
    funext a; apply Fin.ext
    rw [Rect.emb_apply]
    match a with
    | 0 => show 0 + 1 * (j 0).val = (j 0).val; omega
  have := congrFun (View.read_write_univ (v := l.view) f w) ((Rect.unit (s := S256) ![0] S256.size inb_S256_S256_0).emb j)
  rw [h] at this
  refine Eq.trans ?_ this
  conv_rhs => rw [← h]
  rfl

/-- The block of an index list that the task fetches, entry by entry. -/
theorem part1_apply (o1 : Fin 1 → ℕ) (h1 : ∀ a, o1 a + S256.size a ≤ S16384.size a) (x : S16384.Idx → Elt F .i32) (j : S256.Idx) :
    x ((Rect.unit (s := S16384) o1 S256.size h1).emb j) = x (ix1 ⟨o1 0 + (j 0).val, lt_of_lt_of_le (Nat.add_lt_add_left (j 0).isLt _) (h1 0)⟩) := by
  congr 1
  funext a; apply Fin.ext
  rw [Rect.emb_apply]
  match a with
  | 0 => show o1 0 + 1 * (j 0).val = o1 0 + (j 0).val; omega

/-- The rows a fetched list gathers from a table are the rows that its entries name. -/
theorem gathered (o1 : Fin 1 → ℕ) (h1 : ∀ a, o1 a + S256.size a ≤ S16384.size a) (x : S16384.Idx → Elt F .i32)
    (W : S100000x128.Idx → Elt F .f32) (g : S100000x128.Idx → Elt F .f32)
    (hg : ∀ j, g j = W j) (idx : S256.Idx → Elt F .i32)
    (hidx : ∀ j, idx j = x ((Rect.unit (s := S16384) o1 S256.size h1).emb j))
    (hin : ∀ j, (idx j).toNat < S100000x128.size gathers_S100000x128_S256x128.axis) :
    SparseCore.gatherPayload gathers_S100000x128_S256x128 g (SparseCore.rows idx rfl hin) = rows256 x W (o1 0) (h1 0) := by
  funext j
  show g _ = W _
  rw [hg]
  congr 1
  funext b
  match b with
  | 0 =>
    refine (Shape.Gathers.idx_axis gathers_S100000x128_S256x128 _ j).trans ?_
    apply Fin.ext
    show (idx _).toNat = (x _).toNat % 100000
    have hk : S256.rowMajor.symm ((j 0).cast rfl) = ix256 (j 0) := by
      rw [Equiv.symm_apply_eq]; apply Fin.ext
      exact (Shape.rowMajor_val_one (ix256 (j 0))).symm
    have e : idx (S256.rowMajor.symm ((j 0).cast rfl)) = x (ix1 ⟨o1 0 + (j 0).val, lt_of_lt_of_le (Nat.add_lt_add_left (j 0).isLt _) (h1 0)⟩) :=
      (congrArg idx hk).trans ((hidx _).trans (part1_apply (F := F) o1 h1 x (ix256 (j 0))))
    have hlt := hin (S256.rowMajor.symm ((j 0).cast rfl))
    refine Eq.trans (congrArg BitVec.toNat e) ?_
    rw [e] at hlt
    exact (Nat.mod_eq_of_lt hlt).symm
  | 1 => exact Fin.ext (Shape.Gathers.idx_of_ne gathers_S100000x128_S256x128 _ j 1 (by decide))

/-- All of a table as the stream addresses it reads as the table. -/
theorem allRows_apply (W : S100000x128.Idx → Elt F .f32) (j : S100000x128.Idx) :
    W ((Rect.unit (s := S100000x128) ![0, 0] S100000x128.size inb_S100000x128_S100000x128_0_0).emb j) = W j := by
  congr 1
  funext a; apply Fin.ext
  rw [Rect.emb_apply]
  match a with
  | 0 => show 0 + 1 * (j 0).val = (j 0).val; omega
  | 1 => show 0 + 1 * (j 1).val = (j 1).val; omega

/-! ## The run -/

variable (d : Dev nD) (c : Fin τ.nSC) (s : Fin τ.nSub)
  (o1 : Fin 1 → ℕ) (h1 : ∀ a, o1 a + S256.size a ≤ S16384.size a)
  (o2 : Fin 2 → ℕ) (h2 : ∀ a, o2 a + S256x128.size a ≤ S8192x128.size a)
  (ou : Memref sig .scVector .hbm S8192x128 .f32) (oi : Memref sig .scVector .hbm S8192x128 .f32)
  (lu : Memref sig .scVector .vmem S256 .i32) (hlu : lu.IsWhole) (li : Memref sig .scVector .vmem S256 .i32) (hli : li.IsWhole)
  (ru : Memref sig .scVector .vmem S256x128 .f32) (hru : ru.IsWhole) (ri : Memref sig .scVector .vmem S256x128 .f32) (hri : ri.IsWhole)
  (gu gi wu wi fu fi : DmaSems sig S_)

set_option maxHeartbeats 4000000 in
theorem task_run (q : PosShare TreeShare) (xu : Buf (Elt F) ((V d c s).loc main_arg0_scv)) (xi : Buf (Elt F) ((V d c s).loc main_arg1_scv))
    (tu : Buf (Elt F) ((V d c s).loc main_arg2_scv)) (ti : Buf (Elt F) ((V d c s).loc main_arg3_scv))
    (fou : Buf (Elt F) (ou.view.loc (V d c s))) (foi : Buf (Elt F) (oi.view.loc (V d c s)))
    (flu : Buf (Elt F) (lu.view.loc (V d c s))) (fli : Buf (Elt F) (li.view.loc (V d c s)))
    (fru : Buf (Elt F) (ru.view.loc (V d c s))) (fri : Buf (Elt F) (ri.view.loc (V d c s)))
    (hxu : ∀ j : S16384.Idx, (show BitVec 32 from xu j).toNat < 100000) (hxi : ∀ j : S16384.Idx, (show BitVec 32 from xi j).toNat < 100000)
    (O : CellTallies nD τ sig (HIx 2)) (W : Waits sig (HIx 2)) (hO : ∀ g, O g none = 0) :
    iprop(levAts (K (F := F)).L (K (F := F)).lev
        ∗ (xuV.view.loc (V d c s) ↦{q} xu) ∗ (xiV.view.loc (V d c s) ↦{q} xi) ∗ (wuV.view.loc (V d c s) ↦{q} tu) ∗ (wiV.view.loc (V d c s) ↦{q} ti)
        ∗ ((part2 o2 h2 ou).view.loc (V d c s) ↦[(part2 o2 h2 ou).view.set]{fullShare} fou)
        ∗ ((part2 o2 h2 oi).view.loc (V d c s) ↦[(part2 o2 h2 oi).view.set]{fullShare} foi)
        ∗ (lu.view.loc (V d c s) ↦{fullShare} flu) ∗ (li.view.loc (V d c s) ↦{fullShare} fli)
        ∗ (ru.view.loc (V d c s) ↦{fullShare} fru) ∗ (ri.view.loc (V d c s) ↦{fullShare} fri)
        ∗ semVal (V d c s, .dma gu.sem) 0 ∗ semVal (V d c s, .dma gi.sem) 0 ∗ semVal (V d c s, .dma wu.sem) 0 ∗ semVal (V d c s, .dma wi.sem) 0
        ∗ semVal (V d c s, .dma fu.sem) 0 ∗ semVal (V d c s, .dma fi.sem) 0
        ∗ owes (V d c s) O W)
      ⊢ wp frame (wpE (defs₀ (F := F)) 𝒱₀ (V d c s) none) Set.univ
          (task c s o1 h1 o2 h2 ou oi lu hlu li hli ru hru ri hri gu gi wu wi fu fi)
          fun _ => (iprop((xuV.view.loc (V d c s) ↦{q} xu) ∗ (xiV.view.loc (V d c s) ↦{q} xi) ∗ (wuV.view.loc (V d c s) ↦{q} tu) ∗ (wiV.view.loc (V d c s) ↦{q} ti)
            ∗ (∃ f, ⌜(part2 o2 h2 ou).view.read (Elt F) f = rows256 xu tu (o1 0) (h1 0)⌝ ∗ ((part2 o2 h2 ou).view.loc (V d c s) ↦[(part2 o2 h2 ou).view.set]{fullShare} f))
            ∗ (∃ f, ⌜(part2 o2 h2 oi).view.read (Elt F) f = rows256 xi ti (o1 0) (h1 0)⌝ ∗ ((part2 o2 h2 oi).view.loc (V d c s) ↦[(part2 o2 h2 oi).view.set]{fullShare} f))
            ∗ (∃ f, lu.view.loc (V d c s) ↦{fullShare} f) ∗ (∃ f, li.view.loc (V d c s) ↦{fullShare} f)
            ∗ (∃ f, ru.view.loc (V d c s) ↦{fullShare} f) ∗ (∃ f, ri.view.loc (V d c s) ↦{fullShare} f)
            ∗ semVal (V d c s, .dma gu.sem) 0 ∗ semVal (V d c s, .dma gi.sem) 0 ∗ semVal (V d c s, .dma wu.sem) 0 ∗ semVal (V d c s, .dma wi.sem) 0
            ∗ semVal (V d c s, .dma fu.sem) 0 ∗ semVal (V d c s, .dma fi.sem) 0
            ∗ ∃ W', ⌜∀ p ∈ W', p ∈ W ∨ p.2 = none⌝ ∗ owes (V d c s) O W') : sProp 𝕄) := by
  have hinu : ∀ f x, ((allWords lu).view.read (Elt F) (lu.view.write (Elt F) f ((part1 o1 h1 xuV).view.read (Elt F) xu) Finset.univ) x).toNat
      < S100000x128.size gathers_S100000x128_S256x128.axis := fun f x => by
    rw [read_words]; exact hxu _
  have hini : ∀ f x, ((allWords li).view.read (Elt F) (li.view.write (Elt F) f ((part1 o1 h1 xiV).view.read (Elt F) xi) Finset.univ) x).toNat
      < S100000x128.size gathers_S100000x128_S256x128.axis := fun f x => by
    rw [read_words]; exact hxi _
  unfold task taskHead
  iintro ⟨#Hlv, Hxu, Hxi, Htu, Hti, Hou, Hoi, Hlu, Hli, Hru, Hri, Hgu, Hgi, Hwu, Hwi, Hfu, Hfi, HO⟩
  ihave Hmw := (show levAts (K (F := F)).L (K (F := F)).lev ⊢ Transfers.MayWaits (V d c s) (default : HIx 2) O from
    (K (F := F)).mayWaits_none (thr := V d c s) hO) $$ Hlv
  sl_exec
  sl_step
  have hou : (part2 o2 h2 ou).view.read (Elt F) ((part2 o2 h2 ou).view.writes (Elt F) fou
      [⟨Rect.whole S256x128, task_run.sl.dma0_2 d c s o1 h1 lu ru xu tu flu fru hinu⟩]) = rows256 xu tu (o1 0) (h1 0) := by
    rw [read_stored]
    unfold task_run.sl.dma0_2
    refine (read_stored _ _ _).trans ?_
    unfold task_run.sl.gather2
    exact gathered o1 h1 xu tu _ (allRows_apply tu) _ (fun j => congrFun (read_words lu _ _) j) _
  have hoi : (part2 o2 h2 oi).view.read (Elt F) ((part2 o2 h2 oi).view.writes (Elt F) foi
      [⟨Rect.whole S256x128, task_run.sl.dma0_3 d c s o1 h1 li ri xi ti fli fri hini⟩]) = rows256 xi ti (o1 0) (h1 0) := by
    rw [read_stored]
    unfold task_run.sl.dma0_3
    refine (read_stored _ _ _).trans ?_
    unfold task_run.sl.gather3
    exact gathered o1 h1 xi ti _ (allRows_apply ti) _ (fun j => congrFun (read_words li _ _) j) _
  iframe Hxu
  iframe Hxi
  iframe Htu
  iframe Hti
  isplitl [Hou]
  · iexists _
    isplitr
    · ipureintro; exact hou
    · iexact Hou
  isplitl [Hoi]
  · iexists _
    isplitr
    · ipureintro; exact hoi
    · iexact Hoi
  isplitl [Hlu]
  · iexists _; iexact Hlu
  isplitl [Hli]
  · iexists _; iexact Hli
  isplitl [Hru]
  · iexists _; iexact Hru
  isplitl [Hri]
  · iexists _; iexact Hri
  iframe Hgu
  iframe Hgi
  iframe Hwu
  iframe Hwi
  iframe Hfu
  iframe Hfi
  iexists _
  isplitr
  swap
  · iexact HO
  ipureintro
  intro p hp
  simp only [Finset.mem_insert] at hp
  rcases hp with rfl | rfl | rfl | rfl | rfl | rfl | h
  iterate 6 exact Or.inr rfl
  exact Or.inl h

end Cert.Proof.Twin

end
-- ==== Proof.Blocks.lean ====
/-
  How a gather call's operands are dealt among its 32 tasks: each task reads the tables and the index lists at a share
  of its own and writes a block of 256 rows of each output; the blocks cover the outputs. What a call hands a task and
  what the task hands back, with the values.
-/
module

public import proofs.«01_k».proof.Proof.TaskRun

@[expose] public section

set_option synthInstance.maxSize 4096

noncomputable section

namespace Cert.Proof.Twin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Tasks, shares and blocks -/

/-- The number of the task on vector subcore `i` of SparseCore `c`. -/
def taskNo (c : Fin τ.nSC) (i : Fin τ.nSub) : Fin 32 :=
  ⟨2 * i.val + c.val, by have hc : c.val < 2 := c.isLt; have hi : i.val < 16 := i.isLt; omega⟩

/-- Task `w`'s share of the arrays that every task reads. -/
def sh (w : Fin 32) : PosShare TreeShare := Transfers.dealOf fullShare Finset.univ w

/-- Where task `w`'s entries start in an index list, the call's own starting at `start`. -/
def offL (start : ℕ) (w : Fin 32) : Fin 1 → ℕ := ![start + 256 * w.val]
/-- Where task `w`'s block starts in an output. -/
def offB (w : Fin 32) : Fin 2 → ℕ := ![256 * w.val, 0]

theorem offL_inb {start : ℕ} (h : start + 8192 ≤ 16384) (w : Fin 32) : ∀ a, offL start w a + S256.size a ≤ S16384.size a := fun a => by
  match a with
  | 0 => show start + 256 * w.val + 256 ≤ 16384; omega
theorem offB_inb (w : Fin 32) : ∀ a, offB w a + S256x128.size a ≤ S8192x128.size a := fun a => by
  match a with
  | 0 => show 256 * w.val + 256 ≤ 8192; omega
  | 1 => show 0 + 128 ≤ 128; omega

/-- Over the cores and the subcores is over the tasks. -/
theorem bigSep_tasks (Φ : Fin 32 → sProp 𝕄) :
    (bigSep Finset.univ fun c : Fin 2 => bigSep Finset.univ fun i : Fin 16 => Φ (taskNo c i)) = bigSep Finset.univ Φ := by
  rw [bigSep_univ_comm, bigSep_univ_equiv (finProdFinEquiv : Fin 16 × Fin 2 ≃ Fin 32) Φ, bigSep_univ_prod]
  refine bigSep_congr fun i _ => bigSep_congr fun c _ => congrArg Φ (Fin.ext ?_)
  show 2 * i.val + c.val = c.val + 2 * i.val
  omega

/-- An array that every task reads is held by the tasks at their shares. -/
theorem dealt (ℓ : Loc nD τ sig) (f : Buf (Elt F) ℓ) :
    (ℓ ↦{fullShare} f : sProp 𝕄) = bigSep Finset.univ fun w : Fin 32 => ℓ ↦{sh w} f :=
  Transfers.pointsTo_deal Finset.univ Finset.univ_nonempty fullShare

/-- Block `w` of an output. -/
abbrev blk (w : Fin 32) (o : Memref sig .scVector .hbm S8192x128 .f32) : Memref sig .scVector .hbm S256x128 .f32 :=
  part2 (offB w) (offB_inb w) o

theorem blk_emb (w : Fin 32) (j : S256x128.Idx) :
    (Rect.unit (s := S8192x128) (offB w) S256x128.size (offB_inb w)).emb j
      = (fun | 0 => ⟨256 * w.val + (j 0).val, by have : (j 0).val < 256 := (j 0).isLt; show _ < 8192; omega⟩ | 1 => j 1 : S8192x128.Idx) := by
  funext a; apply Fin.ext
  rw [Rect.emb_apply]
  match a with
  | 0 => show 256 * w.val + 1 * (j 0).val = 256 * w.val + (j 0).val; omega
  | 1 => show 0 + 1 * (j 1).val = (j 1).val; omega

theorem mem_blkRect {w : Fin 32} {i : S8192x128.Idx} :
    i ∈ (Rect.unit (s := S8192x128) (offB w) S256x128.size (offB_inb w)).set ↔ (i 0).val / 256 = w.val := by
  rw [Rect.mem_set_unit]
  constructor
  · intro h
    have h0 : 256 * w.val ≤ (i 0).val ∧ (i 0).val < 256 * w.val + 256 := h 0
    omega
  · intro h a
    match a with
    | 0 => show 256 * w.val ≤ (i 0).val ∧ (i 0).val < 256 * w.val + 256; omega
    | 1 => exact ⟨Nat.zero_le _, by show (i 1).val < 0 + 128; have : (i 1).val < 128 := (i 1).isLt; omega⟩

/-- The block that holds row `r` of an output, and the row's place in it. -/
def blkOf (j : S8192x128.Idx) : Fin 32 := ⟨(j 0).val / 256, by have : (j 0).val < 8192 := (j 0).isLt; omega⟩
def inBlk (j : S8192x128.Idx) : S256x128.Idx := fun | 0 => ⟨(j 0).val % 256, Nat.mod_lt _ (by decide)⟩ | 1 => j 1

theorem blk_emb_inBlk (j : S8192x128.Idx) :
    (Rect.unit (s := S8192x128) (offB (blkOf j)) S256x128.size (offB_inb (blkOf j))).emb (inBlk j) = j := by
  rw [blk_emb]
  funext a; apply Fin.ext
  match a with
  | 0 => exact Nat.div_add_mod _ _
  | 1 => rfl

section Out

variable (o : Memref sig .scVector .hbm S8192x128 .f32) (ho : o.IsWhole)

/-- Its elements, among the output's. -/
abbrev blkSet (w : Fin 32) : Finset o.view.ty.Idx := (blk w o).view.set

theorem blk_set (w : Fin 32) : blkSet o w = (Rect.unit (s := S8192x128) (offB w) S256x128.size (offB_inb w)).set.map o.view.emb := by
  show (o.view.slice _).set = _
  rw [View.set_slice]

theorem blk_disjoint : ∀ w ∈ (Finset.univ : Finset (Fin 32)), ∀ w' ∈ (Finset.univ : Finset (Fin 32)), w ≠ w' →
    Disjoint (blkSet o w) (blkSet o w') := by
  intro w _ w' _ h
  rw [blk_set, blk_set, Finset.disjoint_map, Finset.disjoint_left]
  intro i hi hi'
  exact h (Fin.ext ((mem_blkRect.mp hi).symm.trans (mem_blkRect.mp hi')))

include ho in
theorem blk_cover : (Finset.univ : Finset (Fin 32)).biUnion (fun w => blkSet o w) = Finset.univ := by
  rw [← ho.set_eq_univ]
  ext i
  constructor
  · intro _; rw [ho.set_eq_univ]; exact Finset.mem_univ _
  · intro hi
    obtain ⟨j, _, rfl⟩ := Finset.mem_map.mp hi
    refine Finset.mem_biUnion.mpr ⟨blkOf j, Finset.mem_univ _, ?_⟩
    rw [blk_set]
    exact Finset.mem_map_of_mem _ (mem_blkRect.mpr rfl)

variable (d : Dev nD) (c : Fin τ.nSC) (i : Fin τ.nSub)

include ho in
theorem blocks_eq (f : Buf (Elt F) (o.view.loc (V d c i))) :
    (o.view.loc (V d c i) ↦{fullShare} f : sProp 𝕄)
      = bigSep Finset.univ fun w : Fin 32 => o.view.loc (V d c i) ↦[(blk w o).view.set]{fullShare} f := by
  rw [← pointsTo_biUnion Finset.univ (ℓ := o.view.loc (V d c i)) (fun w => blkSet o w) (blk_disjoint o), blk_cover o ho]

include ho in
/-- Blocks that hold the rows their own parts of a list name make an output that holds all the rows. -/
theorem blocks_join (x : S16384.Idx → Elt F .i32) (W : S100000x128.Idx → Elt F .f32) (start : ℕ) (h : start + 8192 ≤ 16384) :
    (bigSep Finset.univ fun w : Fin 32 => iprop(∃ f, ⌜(blk w o).view.read (Elt F) f = rows256 x W (offL start w 0) (offL_inb h w 0)⌝
        ∗ (o.view.loc (V d c i) ↦[(blk w o).view.set]{fullShare} f)))
      ⊢ (iprop(∃ f, ⌜o.view.read (Elt F) f = rows8192 x W start h⌝ ∗ (o.view.loc (V d c i) ↦{fullShare} f)) : sProp 𝕄) := by
  refine (bigSep_exists_pi Finset.univ (fun w (f : Buf (Elt F) (o.view.loc (V d c i))) =>
    iprop(⌜(blk w o).view.read (Elt F) f = rows256 x W (offL start w 0) (offL_inb h w 0)⌝ ∗ (o.view.loc (V d c i) ↦[(blk w o).view.set]{fullShare} f)))).trans ?_
  iintro ⟨%fs, H⟩
  ihave H1 := (bigSep_pure_sep Finset.univ (fun w : Fin 32 => (blk w o).view.read (Elt F) (fs w) = rows256 x W (offL start w 0) (offL_inb h w 0)) _) $$ H
  icases H1 with ⟨%hfs, H⟩
  ihave H' := (pointsTo_biUnion_join (ℓ := o.view.loc (V d c i)) (q := fullShare) (Val := Elt F) Finset.univ
    (fun w => blkSet o w) fs (fs 0) (blk_disjoint o)) $$ H
  icases H' with ⟨%g, %hg, Hg⟩
  rw [blk_cover o ho]
  iexists g
  isplitr
  · ipureintro
    funext j
    have e1 : o.view.read (Elt F) g j = (blk (blkOf j) o).view.read (Elt F) g (inBlk j) := by
      rw [View.read_apply, View.read_apply]
      show _ = cast _ (g (o.view.emb ((Rect.unit (s := S8192x128) (offB (blkOf j)) S256x128.size (offB_inb (blkOf j))).emb (inBlk j))))
      rw [blk_emb_inBlk]
    rw [e1, View.read_congr (fun k hk => hg (blkOf j) (Finset.mem_univ _) k hk), hfs (blkOf j) (Finset.mem_univ _)]
    unfold rows256 rows8192
    congr 3
    · congr 2
      apply Fin.ext
      show start + 256 * ((j 0).val / 256) + (j 0).val % 256 = start + (j 0).val
      have := Nat.div_add_mod (j 0).val 256
      omega
  · iexact Hg

end Out

end Cert.Proof.Twin

end
-- ==== Proof.Calls.lean ====
/-
  The two SparseCore calls as the launch theorem takes them: what each call, and each of its tasks, is handed and hands
  back (the values among it), and the tasks' obligations.
-/
module

public import proofs.«01_k».proof.Proof.Blocks

@[expose] public section

set_option synthInstance.maxSize 4096
set_option synthInstance.maxHeartbeats 200000

noncomputable section

namespace Cert.Proof.Twin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## What the proof asks of the launch memory -/

/-- The users' list and the items' list, the users' table and the items' table of device `d`, at the launch. -/
abbrev xuAt (d : Dev nD) : S16384.Idx → Elt F .i32 := m ((SparseCore.T d).loc main_arg0)
abbrev xiAt (d : Dev nD) : S16384.Idx → Elt F .i32 := m ((SparseCore.T d).loc main_arg1)
abbrev tuAt (d : Dev nD) : S100000x128.Idx → Elt F .f32 := m ((SparseCore.T d).loc main_arg2)
abbrev tiAt (d : Dev nD) : S100000x128.Idx → Elt F .f32 := m ((SparseCore.T d).loc main_arg3)

/-- Every entry of the two lists names a row of the tables. -/
def PreOK : Prop := ∀ (d : Dev nD) (j : S16384.Idx),
  (show BitVec 32 from xuAt m d j).toNat < 100000 ∧ (show BitVec 32 from xiAt m d j).toNat < 100000

/-! ## What a task is handed and hands back -/

section TaskRes

variable (d : Dev nD) (c : Fin τ.nSC) (i : Fin τ.nSub) (ou oi : Memref sig .scVector .hbm S8192x128 .f32)
  (start : ℕ) (h : start + 8192 ≤ 16384)

/-- The lists and the tables, at the task's share. -/
abbrev reads : sProp 𝕄 :=
  iprop((xuV.view.loc (V d c i) ↦{sh (taskNo c i)} xuAt m d) ∗ (xiV.view.loc (V d c i) ↦{sh (taskNo c i)} xiAt m d)
    ∗ (wuV.view.loc (V d c i) ↦{sh (taskNo c i)} tuAt m d) ∗ (wiV.view.loc (V d c i) ↦{sh (taskNo c i)} tiAt m d))

/-- A block of an output, at some contents; -/
abbrev blkAny (w : Fin 32) (o : Memref sig .scVector .hbm S8192x128 .f32) : sProp 𝕄 :=
  iprop(∃ f, (o.view.loc (V d c i) ↦[blkSet o w]{fullShare} f))
/-- at the rows its part of a list names. -/
abbrev blkAt (w : Fin 32) (o : Memref sig .scVector .hbm S8192x128 .f32) (x : S16384.Idx → Elt F .i32) (W : S100000x128.Idx → Elt F .f32) : sProp 𝕄 :=
  iprop(∃ f, ⌜(blk w o).view.read (Elt F) f = rows256 x W (offL start w 0) (offL_inb h w 0)⌝
    ∗ (o.view.loc (V d c i) ↦[blkSet o w]{fullShare} f))

abbrev handed : sProp 𝕄 := iprop(reads m d c i ∗ blkAny d c i (taskNo c i) ou ∗ blkAny d c i (taskNo c i) oi)
abbrev back : sProp 𝕄 :=
  iprop(reads m d c i ∗ blkAt d c i start h (taskNo c i) ou (xuAt m d) (tuAt m d) ∗ blkAt d c i start h (taskNo c i) oi (xiAt m d) (tiAt m d))

end TaskRes

abbrev u0 : Memref sig .scVector .hbm S8192x128 .f32 := Memref.whole main_v0_0_scv
abbrev i0 : Memref sig .scVector .hbm S8192x128 .f32 := Memref.whole main_v0_1_scv
abbrev u1 : Memref sig .scVector .hbm S8192x128 .f32 := Memref.whole main_v1_0_scv
abbrev i1 : Memref sig .scVector .hbm S8192x128 .f32 := Memref.whole main_v1_1_scv

theorem half0 : 0 + 8192 ≤ 16384 := by decide
theorem half1 : 8192 + 8192 ≤ 16384 := by decide

/-- What call `q` hands the task on vector subcore `i` of SparseCore `c`, and what it is handed back: the first call
    gathers the first half of each list, the second the second. -/
def goOf (q : Fin 2) (d : Dev nD) (c : Fin τ.nSC) (i : Fin τ.nSub) : sProp 𝕄 :=
  match q with
  | 0 => handed m d c i u0 i0
  | 1 => handed m d c i u1 i1
def tdOf (q : Fin 2) (d : Dev nD) (c : Fin τ.nSC) (i : Fin τ.nSub) : sProp 𝕄 :=
  match q with
  | 0 => back m d c i u0 i0 0 half0
  | 1 => back m d c i u1 i1 8192 half1

instance goOf_storable (q : Fin 2) (d : Dev nD) (c : Fin τ.nSC) (i : Fin τ.nSub) : BI.Storable (upEmb : UEmb _ 𝕄) (goOf m q d c i) :=
  match q with
  | 0 => (inferInstance : BI.Storable (upEmb : UEmb _ 𝕄) (handed m d c i u0 i0))
  | 1 => (inferInstance : BI.Storable (upEmb : UEmb _ 𝕄) (handed m d c i u1 i1))
instance tdOf_storable (q : Fin 2) (d : Dev nD) (c : Fin τ.nSC) (i : Fin τ.nSub) : BI.Storable (upEmb : UEmb _ 𝕄) (tdOf m q d c i) :=
  match q with
  | 0 => (inferInstance : BI.Storable (upEmb : UEmb _ 𝕄) (back m d c i u0 i0 0 half0))
  | 1 => (inferInstance : BI.Storable (upEmb : UEmb _ 𝕄) (back m d c i u1 i1 8192 half1))

/-- The calls' payloads: a SparseCore's are its tasks' together. -/
def P : (K (F := F)).Pay (nD := nD) (Val := Elt F) (Name := ℕ) (U := UU) where
  st := fun q d c => bigSep Finset.univ fun i : Fin ((K (F := F)).nSub q) => goOf m q d ((K (F := F)).core q c) ((K (F := F)).sub q i)
  dn := fun q d c => bigSep Finset.univ fun i : Fin ((K (F := F)).nSub q) => tdOf m q d ((K (F := F)).core q c) ((K (F := F)).sub q i)
  go := fun q d c i => goOf m q d ((K (F := F)).core q c) ((K (F := F)).sub q i)
  td := fun q d c i => tdOf m q d ((K (F := F)).core q c) ((K (F := F)).sub q i)
  x := fun _ _ => iprop(emp)

instance P_storable : (P (F := F) m).IsStorable where
  st q d c := (inferInstance : BI.Storable (upEmb : UEmb _ 𝕄)
    (bigSep Finset.univ fun i : Fin ((K (F := F)).nSub q) => goOf m q d ((K (F := F)).core q c) ((K (F := F)).sub q i)))
  dn q d c := (inferInstance : BI.Storable (upEmb : UEmb _ 𝕄)
    (bigSep Finset.univ fun i : Fin ((K (F := F)).nSub q) => tdOf m q d ((K (F := F)).core q c) ((K (F := F)).sub q i)))
  go q d c i := goOf_storable m q d _ _
  td q d c i := tdOf_storable m q d _ _

theorem vecSplit (q : Fin 2) : (K (F := F)).VecSplit' (P m) q := by
  intro d c
  show (bigSep Finset.univ fun i : Fin ((K (F := F)).nSub q) => goOf m q d ((K (F := F)).core q c) ((K (F := F)).sub q i)) ⊢ |={Set.univ}=> iprop(
    (bigSep Finset.univ fun i : Fin ((K (F := F)).nSub q) => goOf m q d ((K (F := F)).core q c) ((K (F := F)).sub q i))
    ∗ ((bigSep Finset.univ fun i : Fin ((K (F := F)).nSub q) => tdOf m q d ((K (F := F)).core q c) ((K (F := F)).sub q i))
        -∗ bigSep Finset.univ fun i : Fin ((K (F := F)).nSub q) => tdOf m q d ((K (F := F)).core q c) ((K (F := F)).sub q i)))
  iintro H; imodintro
  isplitl [H]; · iexact H
  iintro H; iexact H

/-! ## A task's storage -/

/-- Members of a set of resources taken out of it, one after the other. -/
theorem taken_out {I : Type} [DecidableEq I] (Φ : I → sProp 𝕄) : ∀ (l : List I) (s : Finset I), l.Nodup → (∀ x ∈ l, x ∈ s) →
    bigSep s Φ = l.foldr (fun x R => iprop(Φ x ∗ R)) (bigSep (s \ l.toFinset) Φ)
  | [], s, _, _ => by simp
  | a :: l, s, hn, hm => by
    have ha := List.nodup_cons.mp hn
    rw [SparseCore.bigSep_erase' (hm a (List.mem_cons_self ..)), taken_out Φ l (s.erase a) ha.2 (fun x hx => Finset.mem_erase.mpr
      ⟨fun e => ha.1 (e ▸ hx), hm x (List.mem_cons_of_mem _ hx)⟩)]
    have hs : s.erase a \ l.toFinset = s \ (a :: l).toFinset := by
      ext x; simp only [Finset.mem_sdiff, Finset.mem_erase, List.mem_toFinset, List.mem_cons, not_or]; tauto
    rw [hs]; rfl

section Storage

variable (d : Dev nD) (c : Fin τ.nSC) (i : Fin τ.nSub)

/-- Scratch buffers of the subcore's own, at some contents, and the rest of its buffers. -/
theorem ownBufs_out (l : List (Ref sig .scVector)) (hn : l.Nodup) (ho : ∀ r ∈ l, ((Proc.scVector c i).devRef r : DevRef τ sig).owner = .proc (Proc.scVector c i)) :
    (ownBufs (V d c i) : sProp 𝕄)
      = (l.map (fun r => (Proc.scVector c i).devRef r)).foldr (fun b R => iprop((∃ f, ((d, b) : Loc nD τ sig) ↦{fullShare} f) ∗ R))
          (bigSep (ownRefs (τ := τ) (.scVector c i) \ (l.map (fun r => (Proc.scVector c i).devRef r)).toFinset)
            fun b => iprop(∃ f, ((d, b) : Loc nD τ sig) ↦{fullShare} f)) := by
  unfold SparseCore.Cfg.ownBufs
  refine taken_out _ _ _ (hn.map (Proc.devRef_injective _)) fun x hx => ?_
  obtain ⟨r, hr, rfl⟩ := List.mem_map.mp hx
  exact SparseCore.Cfg.mem_ownRefs_of_owner (ho r hr)

/-- DMA semaphores of the subcore's own, at zero, and the rest of its semaphores. -/
theorem ownSems0_out (l : List (SemLoc sig)) (hn : l.Nodup) (ho : ∀ s ∈ l, s.isScoped .scVector = true) :
    (ownSems0 (V d c i) : sProp 𝕄)
      = (l.map (fun s => ((V d c i, s) : GSem nD τ sig))).foldr (fun g R => iprop(semVal g 0 ∗ R))
          (bigSep (ownCells (V d c i) \ (l.map (fun s => ((V d c i, s) : GSem nD τ sig))).toFinset) fun g => semVal g 0) := by
  unfold SparseCore.Cfg.ownSems0
  refine taken_out _ _ _ (hn.map (fun a b h => (Prod.mk.inj h).2)) fun x hx => ?_
  obtain ⟨r, hr, rfl⟩ := List.mem_map.mp hx
  exact mem_ownCells.mpr ⟨rfl, ho r hr⟩

end Storage

/-! ## A task's obligation -/

section Body

variable (d : Dev nD) (c : Fin τ.nSC) (i : Fin τ.nSub)
  (ou oi : Memref sig .scVector .hbm S8192x128 .f32)
  (lu : Memref sig .scVector .vmem S256 .i32) (hlu : lu.IsWhole) (li : Memref sig .scVector .vmem S256 .i32) (hli : li.IsWhole)
  (ru : Memref sig .scVector .vmem S256x128 .f32) (hru : ru.IsWhole) (ri : Memref sig .scVector .vmem S256x128 .f32) (hri : ri.IsWhole)
  (gu gi wu wi fu fi : DmaSems sig S_) (start : ℕ) (h : start + 8192 ≤ 16384)

/-- The task from what its call hands it and its own storage, to what it hands back and its storage again. -/
theorem task_body (hpre : PreOK m) (RB RS : sProp 𝕄)
    (hB : (ownBufs (V d c i) : sProp 𝕄) = iprop((∃ f, lu.view.loc (V d c i) ↦{fullShare} f) ∗ (∃ f, li.view.loc (V d c i) ↦{fullShare} f)
      ∗ (∃ f, ru.view.loc (V d c i) ↦{fullShare} f) ∗ (∃ f, ri.view.loc (V d c i) ↦{fullShare} f) ∗ RB))
    (hS : (ownSems0 (V d c i) : sProp 𝕄) = iprop(semVal (V d c i, .dma gu.sem) 0 ∗ semVal (V d c i, .dma gi.sem) 0 ∗ semVal (V d c i, .dma wu.sem) 0
      ∗ semVal (V d c i, .dma wi.sem) 0 ∗ semVal (V d c i, .dma fu.sem) 0 ∗ semVal (V d c i, .dma fi.sem) 0 ∗ RS))
    (o1 : Fin 1 → ℕ) (h1 : ∀ a, o1 a + S256.size a ≤ S16384.size a) (e1 : o1 = offL start (taskNo c i))
    (o2 : Fin 2 → ℕ) (h2 : ∀ a, o2 a + S256x128.size a ≤ S8192x128.size a) (e2 : o2 = offB (taskNo c i))
    (q : Fin 2) (O : CellTallies nD τ sig (HIx 2)) (W : Waits sig (HIx 2)) (hO : ∀ g, O g none = 0) :
    iprop(levAts (K (F := F)).L (K (F := F)).lev ∗ emp ∗ handed m d c i ou oi
        ∗ scopedBufs (V d c i) ∗ scopedSems0 (V d c i) ∗ owes (V d c i) O W)
      ⊢ wp frame (wpE (defs₀ (F := F)) 𝒱₀ (V d c i) none) Set.univ
          (task c i o1 h1 o2 h2 ou oi lu hlu li hli ru hru ri hri gu gi wu wi fu fi)
          fun _ => iprop(back m d c i ou oi start h
            ∗ scopedBufs (V d c i) ∗ scopedSems0 (V d c i)
            ∗ ∃ W', ⌜∀ p ∈ W', p ∈ W ∨ p.2 = none ∨ p.2 = some q⌝ ∗ owes (V d c i) O W') := by
  subst e1 e2
  rw [(K (F := F)).scopedBufs_V facts d c i, SparseCore.Cfg.scopedSems0_V (Val := Elt F) d c i, hB, hS]
  iintro ⟨#Hlv, -, ⟨⟨Hxu, Hxi, Htu, Hti⟩, ⟨%fou, Hou⟩, ⟨%foi, Hoi⟩⟩, ⟨⟨%flu, Hlu⟩, ⟨%fli, Hli⟩, ⟨%fru, Hru⟩, ⟨%fri, Hri⟩, HRB⟩, ⟨Hgu, Hgi, Hwu, Hwi, Hfu, Hfi, HRS⟩, HO⟩
  ihave Hw := (task_run d c i _ h1 _ h2 ou oi lu hlu li hli ru hru ri hri gu gi wu wi fu fi (sh (taskNo c i)) (xuAt m d) (xiAt m d) (tuAt m d) (tiAt m d)
    fou foi flu fli fru fri (fun j => (hpre d j).1) (fun j => (hpre d j).2) O W hO) $$ [Hxu Hxi Htu Hti Hou Hoi Hlu Hli Hru Hri Hgu Hgi Hwu Hwi Hfu Hfi HO]
  · iframe Hlv
    iframe
  iapply (wp_wand_r frame _ _)
  isplitl [Hw]; · iexact Hw
  iintro %_ ⟨Hxu, Hxi, Htu, Hti, Hou, Hoi, Hlu, Hli, Hru, Hri, Hgu, Hgi, Hwu, Hwi, Hfu, Hfi, %W', %hW', HO⟩
  isplitl [Hxu Hxi Htu Hti Hou Hoi]
  · isplitl [Hxu Hxi Htu Hti]
    · isplitl [Hxu]; · iexact Hxu
      isplitl [Hxi]; · iexact Hxi
      isplitl [Htu]; · iexact Htu
      iexact Hti
    isplitl [Hou]; · iexact Hou
    iexact Hoi
  isplitl [Hlu Hli Hru Hri HRB]
  · isplitl [Hlu]; · iexact Hlu
    isplitl [Hli]; · iexact Hli
    isplitl [Hru]; · iexact Hru
    isplitl [Hri]; · iexact Hri
    iexact HRB
  isplitl [Hgu Hgi Hwu Hwi Hfu Hfi HRS]
  · isplitl [Hgu]; · iexact Hgu
    isplitl [Hgi]; · iexact Hgi
    isplitl [Hwu]; · iexact Hwu
    isplitl [Hwi]; · iexact Hwi
    isplitl [Hfu]; · iexact Hfu
    isplitl [Hfi]; · iexact Hfi
    iexact HRS
  iexists W'; isplitr
  · ipureintro; exact fun p hp => (hW' p hp).imp_right Or.inl
  · iexact HO

end Body

end Cert.Proof.Twin

end
-- ==== Proof.Obls.lean ====
/-
  The tasks' obligations, call by call: each call's kernel is the one task at its own offsets, outputs, scratch and
  semaphores.
-/
module

public import proofs.«01_k».proof.Proof.Calls

@[expose] public section

set_option synthInstance.maxSize 4096
set_option synthInstance.maxHeartbeats 200000

noncomputable section

namespace Cert.Proof.Twin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

/-! ## The obligations -/

/-- The scratch buffers and the semaphores of the two calls' tasks. -/
abbrev bufs0 : List (Ref sig .scVector) := [cc0_scratch0, cc0_scratch1, cc0_scratch2, cc0_scratch3]
abbrev bufs1 : List (Ref sig .scVector) := [cc1_scratch0, cc1_scratch1, cc1_scratch2, cc1_scratch3]
abbrev sems0 : List (SemLoc sig) := [.dma cc0_scratch4.sem, .dma cc0_scratch5.sem, .dma cc0_scratch6.sem, .dma cc0_scratch7.sem, .dma cc0_scoped0.sem, .dma cc0_scoped1.sem]
abbrev sems1 : List (SemLoc sig) := [.dma cc1_scratch4.sem, .dma cc1_scratch5.sem, .dma cc1_scratch6.sem, .dma cc1_scratch7.sem, .dma cc1_scoped0.sem, .dma cc1_scoped1.sem]

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

theorem row0 (c : Fin τ.nSC) (s : Fin τ.nSub) :
    defs₀ (F := F) (.scVector c s) 0 ()
      = SparseCore.onTile hcore0 hsub0 (fun c s => cc0_gather_kernel (coords0 c s)
          wuV (Memref.isWhole_whole _) wiV (Memref.isWhole_whole _) xuV (Memref.isWhole_whole _) xiV (Memref.isWhole_whole _)
          u0 (Memref.isWhole_whole _) i0 (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scoped0 cc0_scoped1) ⟨⟩ c s := rfl
theorem row1 (c : Fin τ.nSC) (s : Fin τ.nSub) :
    defs₀ (F := F) (.scVector c s) 1 ()
      = SparseCore.onTile hcore1 hsub1 (fun c s => cc1_gather_kernel (coords1 c s)
          wuV (Memref.isWhole_whole _) wiV (Memref.isWhole_whole _) xuV (Memref.isWhole_whole _) xiV (Memref.isWhole_whole _)
          u1 (Memref.isWhole_whole _) i1 (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scratch7 cc1_scoped0 cc1_scoped1) ⟨⟩ c s := rfl

theorem offs (a : Fin 2) (b : Fin 16) (start : ℕ) :
    (![512 * b.val + 256 * a.val, 0] : Fin 2 → ℕ) = offB (taskNo a b) ∧ (![512 * b.val + 256 * a.val + start] : Fin 1 → ℕ) = offL start (taskNo a b) := by
  constructor <;> funext k
  · match k with
    | 0 => show 512 * b.val + 256 * a.val = 256 * (2 * b.val + a.val); omega
    | 1 => rfl
  · match k with
    | 0 => show 512 * b.val + 256 * a.val + start = start + 256 * (2 * b.val + a.val); omega

theorem mem4 {α : Type} {p : α → Prop} {a b c d : α} (ha : p a) (hb : p b) (hc : p c) (hd : p d) : ∀ r ∈ [a, b, c, d], p r := by
  intro r hr
  simp only [List.mem_cons, List.not_mem_nil, or_false] at hr
  rcases hr with rfl | rfl | rfl | rfl <;> assumption

theorem bufs0_nodup : bufs0.Nodup := by decide
theorem bufs1_nodup : bufs1.Nodup := by decide
theorem sems0_nodup : sems0.Nodup := by decide
theorem sems1_nodup : sems1.Nodup := by decide
theorem sems0_own : ∀ s ∈ sems0, s.isScoped .scVector = true := by decide
theorem sems1_own : ∀ s ∈ sems1, s.isScoped .scVector = true := by decide
theorem bufs0_own (c : Fin τ.nSC) (i : Fin τ.nSub) : ∀ r ∈ bufs0, ((Proc.scVector c i).devRef r : DevRef τ sig).owner = .proc (Proc.scVector c i) :=
  mem4 rfl rfl rfl rfl
theorem bufs1_own (c : Fin τ.nSC) (i : Fin τ.nSub) : ∀ r ∈ bufs1, ((Proc.scVector c i).devRef r : DevRef τ sig).owner = .proc (Proc.scVector c i) :=
  mem4 rfl rfl rfl rfl

theorem inv0 (hpre : PreOK m) (d : Dev nD) (L : grid0.Coords) (q : Fin 2) (O : CellTallies nD τ sig (HIx 2)) (W : Waits sig (HIx 2)) (hO : ∀ g, O g none = 0) :
    iprop(levAts (K (F := F)).L (K (F := F)).lev ∗ emp ∗ handed m d ((L 0).castLE hcore0) ((L 1).castLE hsub0) u0 i0
        ∗ scopedBufs (V d ((L 0).castLE hcore0) ((L 1).castLE hsub0)) ∗ scopedSems0 (V d ((L 0).castLE hcore0) ((L 1).castLE hsub0)) ∗ owes (V d ((L 0).castLE hcore0) ((L 1).castLE hsub0)) O W)
      ⊢ wp frame (wpE (defs₀ (F := F)) 𝒱₀ (V d ((L 0).castLE hcore0) ((L 1).castLE hsub0)) none) Set.univ
          (cc0_gather_kernel L
          wuV (Memref.isWhole_whole _) wiV (Memref.isWhole_whole _) xuV (Memref.isWhole_whole _) xiV (Memref.isWhole_whole _)
          u0 (Memref.isWhole_whole _) i0 (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scoped0 cc0_scoped1)
          fun _ => iprop(back m d ((L 0).castLE hcore0) ((L 1).castLE hsub0) u0 i0 0 half0
            ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none ∨ p.2 = some q⌝ ∗ owes (V d ((L 0).castLE hcore0) ((L 1).castLE hsub0)) O W') := by
  refine (task_body m d ((L 0).castLE hcore0) ((L 1).castLE hsub0) u0 i0 (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scoped0 cc0_scoped1 0 half0 hpre _ _
    (ownBufs_out d _ _ bufs0 bufs0_nodup (bufs0_own _ _))
    (ownSems0_out d _ _ sems0 sems0_nodup sems0_own)
    _ (k0_off1_inb L) ((k0_off1_eq L).trans (offs (L 0) (L 1) 0).2)
    _ (k0_off2_inb L) ((k0_off2_eq L).trans (offs (L 0) (L 1) 0).1)
    q O W hO).trans (Entails.of_eq (congrArg (fun p => wp frame _ Set.univ p _) (cc0_eq_task L u0 i0 (Memref.isWhole_whole _) (Memref.isWhole_whole _)
      _ _ (Memref.isWhole_whole _) (Memref.isWhole_whole _) _ _ (Memref.isWhole_whole _) (Memref.isWhole_whole _) _ _ _ _ _ _).symm))

theorem inv1 (hpre : PreOK m) (d : Dev nD) (L : grid1.Coords) (q : Fin 2) (O : CellTallies nD τ sig (HIx 2)) (W : Waits sig (HIx 2)) (hO : ∀ g, O g none = 0) :
    iprop(levAts (K (F := F)).L (K (F := F)).lev ∗ emp ∗ handed m d ((L 0).castLE hcore1) ((L 1).castLE hsub1) u1 i1
        ∗ scopedBufs (V d ((L 0).castLE hcore1) ((L 1).castLE hsub1)) ∗ scopedSems0 (V d ((L 0).castLE hcore1) ((L 1).castLE hsub1)) ∗ owes (V d ((L 0).castLE hcore1) ((L 1).castLE hsub1)) O W)
      ⊢ wp frame (wpE (defs₀ (F := F)) 𝒱₀ (V d ((L 0).castLE hcore1) ((L 1).castLE hsub1)) none) Set.univ
          (cc1_gather_kernel L
          wuV (Memref.isWhole_whole _) wiV (Memref.isWhole_whole _) xuV (Memref.isWhole_whole _) xiV (Memref.isWhole_whole _)
          u1 (Memref.isWhole_whole _) i1 (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scratch7 cc1_scoped0 cc1_scoped1)
          fun _ => iprop(back m d ((L 0).castLE hcore1) ((L 1).castLE hsub1) u1 i1 8192 half1
            ∗ scopedBufs (V d ((L 0).castLE hcore1) ((L 1).castLE hsub1)) ∗ scopedSems0 (V d ((L 0).castLE hcore1) ((L 1).castLE hsub1))
            ∗ ∃ W', ⌜∀ p ∈ W', p ∈ W ∨ p.2 = none ∨ p.2 = some q⌝ ∗ owes (V d ((L 0).castLE hcore1) ((L 1).castLE hsub1)) O W') := by
  refine (task_body m d ((L 0).castLE hcore1) ((L 1).castLE hsub1) u1 i1 (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scratch5 cc1_scratch6 cc1_scratch7 cc1_scoped0 cc1_scoped1 8192 half1 hpre _ _
    (ownBufs_out d _ _ bufs1 bufs1_nodup (bufs1_own _ _))
    (ownSems0_out d _ _ sems1 sems1_nodup sems1_own)
    _ (k1_off1_inb L) ((k1_off1_eq L).trans (offs (L 0) (L 1) 8192).2)
    _ (k1_off2_inb L) ((k1_off2_eq L).trans (offs (L 0) (L 1) 0).1)
    q O W hO).trans (Entails.of_eq (congrArg (fun p => wp frame _ Set.univ p _) (cc1_eq_task L u1 i1 (Memref.isWhole_whole _) (Memref.isWhole_whole _)
      _ _ (Memref.isWhole_whole _) (Memref.isWhole_whole _) _ _ (Memref.isWhole_whole _) (Memref.isWhole_whole _) _ _ _ _ _ _).symm))

set_option maxRecDepth 16384 in
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [row0]; simp only [SparseCore.onTile, hci, and_self, ↓reduceDIte]
  exact inv0 m hpre d (coords0 ⟨_, hci.1⟩ ⟨_, hci.2⟩) 0 O W hO

set_option maxRecDepth 16384 in
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [row1]; simp only [SparseCore.onTile, hci, and_self, ↓reduceDIte]
  exact inv1 m hpre d (coords1 ⟨_, hci.1⟩ ⟨_, hci.2⟩) 1 O W hO

end Cert.Proof.Twin

end
-- ==== Proof.Mlp.lean ====
/-
  The dense layers of one grid point, which both TensorCore pipelines run: from four blocks of gathered rows (two of
  the users', two of the items') and the weights, one row of 4096 results.
-/
module

public import proofs.«01_k».proof.Proof.Setup
public import proofs.«01_k».proof.Proof.Gen.KernelIdeal.Launch
public import proofs.«01_k».proof.Proof.Gen.KernelIdeal.Points

@[expose] public section

noncomputable section

namespace Cert.Proof.Twin

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The two pipelines run the same body. -/
theorem cc3_eq_cc2 : cc3__mlp_body (F := F) = cc2__mlp_body (F := F) := rfl

/-- The row of results: from the users' blocks `ua`, `ub`, the items' blocks `ia`, `ib` and the weights. -/
def outRow (ua ub ia ib : S2048x128.Idx → Elt F .f32) (W1 : S256x256.Idx → Elt F .f32) (b1 : S1x256.Idx → Elt F .f32)
    (W2 : S256x256.Idx → Elt F .f32) (b2 Wo : S1x256.Idx → Elt F .f32) (bo : S1x1.Idx → Elt F .f32) : S1x4096.Idx → Elt F .f32 :=
  k2_pay1 W1 (k2_pay2 W1 ua ia b1 W2 b2 Wo) (k2_pay3 ub) ib b1 W2 b2 Wo bo

/-- An offset of zeros on two axes. -/
theorem zero2 : ∀ a : Fin 2, (![0, 0] : Fin 2 → ℕ) a = 0 := fun a => match a with | 0 => rfl | 1 => rfl

/-- A unit rectangle at offset zero of the whole shape keeps every index. -/
theorem unit_full {s : Shape} (off : Fin s.rank → ℕ) (hz : ∀ a, off a = 0) (inb : ∀ a, off a + s.size a ≤ s.size a) (x : s.Idx) :
    (Rect.unit (s := s) off s.size inb).emb x = x := by
  funext a; apply Fin.ext
  rw [Rect.emb_apply]
  show off a + 1 * (x a).val = (x a).val
  rw [hz a]; omega

/-- A store over the whole of a view leaves what was stored. -/
theorem stored_full {κ : Kind} {sp : Space} {s : Shape} {e : EltTy} (v : View sig κ sp s e) (off : Fin s.rank → ℕ) (hz : ∀ a, off a = 0)
    (inb : ∀ a, off a + s.size a ≤ s.size a) (f : v.ty.Contents (Elt F)) (w : s.Idx → Elt F e) :
    v.read (Elt F) (v.writes (Elt F) f [⟨Rect.unit (s := s) off s.size inb, w⟩]) = w := by
  funext x
  have h := View.read_slice_write_emb (v := v) (Rect.unit (s := s) off s.size inb) f w (M := Finset.univ) (x := x) (Finset.mem_univ _)
  rw [unit_full off hz inb x] at h
  exact h

/-- A load of the whole of a view reads what it holds. -/
theorem loaded_full {κ : Kind} {sp : Space} {s : Shape} {e : EltTy} (v : View sig κ sp s e) (off : Fin s.rank → ℕ) (hz : ∀ a, off a = 0)
    (inb : ∀ a, off a + s.size a ≤ s.size a) (f : v.ty.Contents (Elt F)) :
    v.readAt (Elt F) (Rect.unit (s := s) off s.size inb).toLoadRect f = v.read (Elt F) f := by
  funext x
  show v.read (Elt F) f ((Rect.unit (s := s) off s.size inb).emb x) = _
  rw [unit_full off hz inb x]

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem body_run (c : Dev nD) (i : grid2.Coords) (M0 : Memref sig .tc .vmem S2048x128 .f32) (h0 : M0.IsWhole) (M1 : Memref sig .tc .vmem S2048x128 .f32) (h1 : M1.IsWhole)
    (M2 : Memref sig .tc .vmem S2048x128 .f32) (h2 : M2.IsWhole) (M3 : Memref sig .tc .vmem S2048x128 .f32) (h3 : M3.IsWhole)
    (M4 : Memref sig .tc .vmem S256x256 .f32) (h4 : M4.IsWhole) (M5 : Memref sig .tc .vmem S1x256 .f32) (h5 : M5.IsWhole)
    (M6 : Memref sig .tc .vmem S256x256 .f32) (h6 : M6.IsWhole) (M7 : Memref sig .tc .vmem S1x256 .f32) (h7 : M7.IsWhole)
    (M8 : Memref sig .tc .vmem S1x256 .f32) (h8 : M8.IsWhole) (M9 : Memref sig .tc .vmem S1x1 .f32) (h9 : M9.IsWhole)
    (M10 : Memref sig .tc .vmem S1x4096 .f32) (h10 : M10.IsWhole)
    (f0 : Bf (F := F) c M0) (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗
        ((pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗
          ∃ W : Bf (F := F) c M10, ⌜M10.view.read (Elt F) W = outRow (M0.view.read (Elt F) f0) (M1.view.read (Elt F) f1) (M2.view.read (Elt F) f2) (M3.view.read (Elt F) f3)
            (M4.view.read (Elt F) f4) (M5.view.read (Elt F) f5) (M6.view.read (Elt F) f6) (M7.view.read (Elt F) f7) (M8.view.read (Elt F) f8) (M9.view.read (Elt F) f9)⌝ ∗
            pt c M10 W) -∗ Q ⟨⟩))
      ⊢ wp frame (wpE (defs₀ (F := F)) Variants.none c none) E (cc2__mlp_body i M0 h0 M1 h1 M2 h2 M3 h3 M4 h4 M5 h5 M6 h6 M7 h7 M8 h8 M9 h9 M10 h10) Q := by
  iintro ⟨H0, H1, H2, H3, H4, H5, H6, H7, H8, H9, H10, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; isplitr; swap; (· iexact H10); ipureintro
  refine (stored_full _ _ zero2 _ _ _).trans ?_
  have e0 := loaded_full M0.view ![0, 0] zero2 inb_S2048x128_S2048x128_0_0 f0
  have e1 := loaded_full M1.view ![0, 0] zero2 inb_S2048x128_S2048x128_0_0 f1
  have e2 := loaded_full M2.view ![0, 0] zero2 inb_S2048x128_S2048x128_0_0 f2
  have e3 := loaded_full M3.view ![0, 0] zero2 inb_S2048x128_S2048x128_0_0 f3
  have e4 := loaded_full M4.view ![0, 0] zero2 inb_S256x256_S256x256_0_0 f4
  have e5 := loaded_full M5.view ![0, 0] zero2 inb_S1x256_S1x256_0_0 f5
  have e6 := loaded_full M6.view ![0, 0] zero2 inb_S256x256_S256x256_0_0 f6
  have e7 := loaded_full M7.view ![0, 0] zero2 inb_S1x256_S1x256_0_0 f7
  have e8 := loaded_full M8.view ![0, 0] zero2 inb_S1x256_S1x256_0_0 f8
  have e9 := loaded_full M9.view ![0, 0] zero2 inb_S1x1_S1x1_0_0 f9
  rw [← e0, ← e1, ← e2, ← e3, ← e4, ← e5, ← e6, ← e7, ← e8, ← e9]
  rfl

/-- A whole memref's buffer held by what it reads is the buffer held at some such contents. -/
theorem owns_full (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The same, each buffer held by what its memref reads. -/
theorem body_owns (c : Dev nD) (i : grid2.Coords) (M0 : Memref sig .tc .vmem S2048x128 .f32) (h0 : M0.IsWhole) (M1 : Memref sig .tc .vmem S2048x128 .f32) (h1 : M1.IsWhole)
    (M2 : Memref sig .tc .vmem S2048x128 .f32) (h2 : M2.IsWhole) (M3 : Memref sig .tc .vmem S2048x128 .f32) (h3 : M3.IsWhole)
    (M4 : Memref sig .tc .vmem S256x256 .f32) (h4 : M4.IsWhole) (M5 : Memref sig .tc .vmem S1x256 .f32) (h5 : M5.IsWhole)
    (M6 : Memref sig .tc .vmem S256x256 .f32) (h6 : M6.IsWhole) (M7 : Memref sig .tc .vmem S1x256 .f32) (h7 : M7.IsWhole)
    (M8 : Memref sig .tc .vmem S1x256 .f32) (h8 : M8.IsWhole) (M9 : Memref sig .tc .vmem S1x1 .f32) (h9 : M9.IsWhole)
    (M10 : Memref sig .tc .vmem S1x4096 .f32) (h10 : M10.IsWhole)
    (X0 X1 X2 X3 : S2048x128.Idx → Elt F .f32) (X4 : S256x256.Idx → Elt F .f32) (X5 : S1x256.Idx → Elt F .f32) (X6 : S256x256.Idx → Elt F .f32)
    (X7 X8 : S1x256.Idx → Elt F .f32) (X9 : S1x1.Idx → Elt F .f32) (Φ O : sProp 𝕄) (E : Set ℕ) :
    iprop(Φ ∗ O ∗ owns c M0 fullShare X0 ∗ owns c M1 fullShare X1 ∗ owns c M2 fullShare X2 ∗ owns c M3 fullShare X3 ∗ owns c M4 fullShare X4 ∗
        owns c M5 fullShare X5 ∗ owns c M6 fullShare X6 ∗ owns c M7 fullShare X7 ∗ owns c M8 fullShare X8 ∗ owns c M9 fullShare X9 ∗ ∃ X, owns c M10 fullShare X)
      ⊢ (wp frame (wpE (defs₀ (F := F)) Variants.none c none) E (cc2__mlp_body i M0 h0 M1 h1 M2 h2 M3 h3 M4 h4 M5 h5 M6 h6 M7 h7 M8 h8 M9 h9 M10 h10) fun _ =>
        iprop(Φ ∗ O ∗ owns c M0 fullShare X0 ∗ owns c M1 fullShare X1 ∗ owns c M2 fullShare X2 ∗ owns c M3 fullShare X3 ∗ owns c M4 fullShare X4 ∗
          owns c M5 fullShare X5 ∗ owns c M6 fullShare X6 ∗ owns c M7 fullShare X7 ∗ owns c M8 fullShare X8 ∗ owns c M9 fullShare X9 ∗
          owns c M10 fullShare (outRow X0 X1 X2 X3 X4 X5 X6 X7 X8 X9)) : sProp 𝕄) := by
  rw [owns_full c M0 h0, owns_full c M1 h1, owns_full c M2 h2, owns_full c M3 h3, owns_full c M4 h4, owns_full c M5 h5, owns_full c M6 h6,
    owns_full c M7 h7, owns_full c M8 h8, owns_full c M9 h9, owns_full c M10 h10]
  simp only [owns_full c M10 h10]
  iintro ⟨HΦ, HO, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%X, %f10, %e10, H10⟩⟩
  subst e0 e1 e2 e3 e4 e5 e6 e7 e8 e9
  iapply (body_run c i M0 h0 M1 h1 M2 h2 M3 h3 M4 h4 M5 h5 M6 h6 M7 h7 M8 h8 M9 h9 M10 h10 f0 f1 f2 f3 f4 f5 f6 f7 f8 f9 f10 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, %W, %hW, H10⟩
  isplitl [HΦ]; · iexact HΦ
  isplitl [HO]; · iexact HO
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  iexists W; isplitr; swap; (· iexact H10); ipureintro; exact hW

end Cert.Proof.Twin

end
-- ==== Proof.Region.lean ====
/-
  The two TensorCore pipelines as regions of the program: each grid point leaves its inputs' blocks as fetched and the
  row of results (`outRow`) in its output block; around a region the TensorCore's unscoped buffers are held at a valuation.
-/
module

public import proofs.«01_k».proof.Proof.Mlp
public import Idealize.ShloMosaic.Lib.Pipeline.RegionsLoop
public import Idealize.ShloMosaic.Lib.Pipeline.FrameBody

@[expose] public section

noncomputable section

namespace Cert.Proof.Twin

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-- Contents of every buffer of the TensorCore of each device. -/
abbrev Vals (F : FTy → Type) : Type := (c : Dev nD) → (b : Ref sig .tc) → Buf (Elt F) ((c : Thread nD τ).loc b)

variable (V : Vals F)

/-- The waits a TensorCore may have recorded by the end of the SparseCore calls: those at a level of the calls' or lower. -/
def seen (c : Dev nD) : Set (SemLoc sig × HIx 2) := {p | (K (F := F)).lev ((c : Thread nD τ), p.1) p.2 ≤ 8 * 2}

/-! ## What the grid points find and leave -/

/-- Block `t` of window `w`'s array in the first pipeline. -/
abbrev blkA (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- Block `t` of window `w`'s array in the second pipeline. -/
abbrev blkB (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row of results of grid point `t` of the first pipeline. -/
abbrev rowA (c : Dev nD) (t : Fin cfg2.N) : S1x4096.Idx → Elt F .f32 :=
  outRow (blkA V c 0 t) (blkA V c 1 t) (blkA V c 2 t) (blkA V c 3 t) (blkA V c 4 t) (blkA V c 5 t) (blkA V c 6 t) (blkA V c 7 t) (blkA V c 8 t) (blkA V c 9 t)
/-- The row of results of grid point `t` of the second pipeline. -/
abbrev rowB (c : Dev nD) (t : Fin cfg3.N) : S1x4096.Idx → Elt F .f32 :=
  outRow (blkB V c 0 t) (blkB V c 1 t) (blkB V c 2 t) (blkB V c 3 t) (blkB V c 4 t) (blkB V c 5 t) (blkB V c 6 t) (blkB V c 7 t) (blkB V c 8 t) (blkB V c 9 t)

/-- The first pipeline's proof data, entered at `V`. -/
def datA (c : Dev nD) : Dat τ (Elt F) (HIx 2) ℕ UU ℕ cfg2 c where
  A w := V c (Pipeline.arrRef spec2 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => blkA V c 5 t
    | ⟨6, _⟩ => blkA V c 6 t
    | ⟨7, _⟩ => blkA V c 7 t
    | ⟨8, _⟩ => blkA V c 8 t
    | ⟨9, _⟩ => blkA V c 9 t
    | ⟨10, _⟩ => rowA V c t
  Φ _ := Pipeline.scopedRest (Ix := HIx 2) (Name := ℕ) (U := UU) (Lvl := ℕ) (Val := Elt F) spec2 c
  q w := Pipeline.shareOf spec2 w
  owed _ := 0
  recorded _ := seen (F := F) c

/-- The second pipeline's proof data, entered at `V`. -/
def datB (c : Dev nD) : Dat τ (Elt F) (HIx 2) ℕ UU ℕ cfg3 c where
  A w := V c (Pipeline.arrRef spec3 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => blkB V c 5 t
    | ⟨6, _⟩ => blkB V c 6 t
    | ⟨7, _⟩ => blkB V c 7 t
    | ⟨8, _⟩ => blkB V c 8 t
    | ⟨9, _⟩ => blkB V c 9 t
    | ⟨10, _⟩ => rowB V c t
  Φ _ := Pipeline.scopedRest (Ix := HIx 2) (Name := ℕ) (U := UU) (Lvl := ℕ) (Val := Elt F) spec3 c
  q w := Pipeline.shareOf spec3 w
  owed _ := 0
  recorded _ := seen (F := F) c

/-- An input window of the first pipeline holds its block when the body runs. -/
theorem beforeA (c : Dev nD) (w : Fin cfg2.W) (hw : (cfg2.win w).isOut = false) (t : Fin cfg2.N) (d) : (datA V c).before w t d = (datA V c).fetched w t d := by
  refine (datA V c).before_in_eq_fetched w hw (fun _ => ?_) (fun _ _ _ => ?_) (fun _ => ?_) t d <;> fin_cases w <;>
    first | rfl | exact absurd hw (by decide)

/-- An input window of the second pipeline holds its block when the body runs. -/
theorem beforeB (c : Dev nD) (w : Fin cfg3.W) (hw : (cfg3.win w).isOut = false) (t : Fin cfg3.N) (d) : (datB V c).before w t d = (datB V c).fetched w t d := by
  refine (datB V c).before_in_eq_fetched w hw (fun _ => ?_) (fun _ _ _ => ?_) (fun _ => ?_) t d <;> fin_cases w <;>
    first | rfl | exact absurd hw (by decide)

/-- Whatever is found in a buffer, it is held at what it reads. -/
theorem owns_forget (c : Dev nD) {sp : Space} {S : Shape} {e : EltTy} (M : Memref sig .tc sp S e) {ι : Sort*} (X : ι → S.Idx → Elt F e) :
    (iprop(∃ d, owns (c : Thread nD τ) M fullShare (X d)) : sProp 𝕄) ⊢ iprop(∃ Y, owns (c : Thread nD τ) M fullShare Y) := by
  iintro ⟨%d, H⟩; iexists _; iexact H

/-- Whatever is found in a buffer, if it is always `Y` the buffer is held at `Y`. -/
theorem owns_found (c : Dev nD) {sp : Space} {S : Shape} {e : EltTy} (M : Memref sig .tc sp S e) {ι : Sort*} (X : ι → S.Idx → Elt F e) (Y : S.Idx → Elt F e)
    (h : ∀ d, X d = Y) :
    (iprop(∃ d, owns (c : Thread nD τ) M fullShare (X d)) : sProp 𝕄) ⊢ owns (c : Thread nD τ) M fullShare Y := by
  iintro ⟨%d, H⟩; rw [h d]; iexact H

theorem obligationA (c : Dev nD) : BodyObligation (datA V c) (defs₀ (F := F)) 𝒱₀ none Set.univ := fun t => by
  rw [bigSep_W2, bigSep_W2]
  refine BIBase.Entails.trans ?_ (body_owns c (grid2.coords t) (st2_0 t) (hstage2_0 _) (st2_1 t) (hstage2_1 _) (st2_2 t) (hstage2_2 _) (st2_3 t) (hstage2_3 _)
    (st2_4 t) (hstage2_4 _) (st2_5 t) (hstage2_5 _) (st2_6 t) (hstage2_6 _) (st2_7 t) (hstage2_7 _) (st2_8 t) (hstage2_8 _) (st2_9 t) (hstage2_9 _)
    (st2_10 t) (hstage2_10 _) (blkA V c 0 t) (blkA V c 1 t) (blkA V c 2 t) (blkA V c 3 t) (blkA V c 4 t) (blkA V c 5 t) (blkA V c 6 t) (blkA V c 7 t) (blkA V c 8 t) (blkA V c 9 t)
    ((datA V c).Φ t.castSucc) ((datA V c).owesAt none t.castSucc) Set.univ)
  have b0 : ∀ d, (datA V c).before 0 t d = blkA V c 0 t := fun d => (beforeA V c 0 rfl t d).trans rfl
  have b1 : ∀ d, (datA V c).before 1 t d = blkA V c 1 t := fun d => (beforeA V c 1 rfl t d).trans rfl
  have b2 : ∀ d, (datA V c).before 2 t d = blkA V c 2 t := fun d => (beforeA V c 2 rfl t d).trans rfl
  have b3 : ∀ d, (datA V c).before 3 t d = blkA V c 3 t := fun d => (beforeA V c 3 rfl t d).trans rfl
  have b4 : ∀ d, (datA V c).before 4 t d = blkA V c 4 t := fun d => (beforeA V c 4 rfl t d).trans rfl
  have b5 : ∀ d, (datA V c).before 5 t d = blkA V c 5 t := fun d => (beforeA V c 5 rfl t d).trans rfl
  have b6 : ∀ d, (datA V c).before 6 t d = blkA V c 6 t := fun d => (beforeA V c 6 rfl t d).trans rfl
  have b7 : ∀ d, (datA V c).before 7 t d = blkA V c 7 t := fun d => (beforeA V c 7 rfl t d).trans rfl
  have b8 : ∀ d, (datA V c).before 8 t d = blkA V c 8 t := fun d => (beforeA V c 8 rfl t d).trans rfl
  have b9 : ∀ d, (datA V c).before 9 t d = blkA V c 9 t := fun d => (beforeA V c 9 rfl t d).trans rfl
  exact BI.sep_mono (BI.Entails.refl _) (BI.sep_mono (BI.Entails.refl _) (BI.sep_mono (owns_found c (st2_0 t) _ _ b0) (BI.sep_mono (owns_found c (st2_1 t) _ _ b1) (BI.sep_mono (owns_found c (st2_2 t) _ _ b2) (BI.sep_mono (owns_found c (st2_3 t) _ _ b3) (BI.sep_mono (owns_found c (st2_4 t) _ _ b4) (BI.sep_mono (owns_found c (st2_5 t) _ _ b5) (BI.sep_mono (owns_found c (st2_6 t) _ _ b6) (BI.sep_mono (owns_found c (st2_7 t) _ _ b7) (BI.sep_mono (owns_found c (st2_8 t) _ _ b8) (BI.sep_mono (owns_found c (st2_9 t) _ _ b9) (owns_forget c (st2_10 t) _))))))))))))

theorem obligationB (c : Dev nD) : BodyObligation (datB V c) (defs₀ (F := F)) 𝒱₀ none Set.univ := fun t => by
  rw [bigSep_W3, bigSep_W3]
  refine BIBase.Entails.trans ?_ (body_owns c (grid3.coords t) (st3_0 t) (hstage3_0 _) (st3_1 t) (hstage3_1 _) (st3_2 t) (hstage3_2 _) (st3_3 t) (hstage3_3 _)
    (st3_4 t) (hstage3_4 _) (st3_5 t) (hstage3_5 _) (st3_6 t) (hstage3_6 _) (st3_7 t) (hstage3_7 _) (st3_8 t) (hstage3_8 _) (st3_9 t) (hstage3_9 _)
    (st3_10 t) (hstage3_10 _) (blkB V c 0 t) (blkB V c 1 t) (blkB V c 2 t) (blkB V c 3 t) (blkB V c 4 t) (blkB V c 5 t) (blkB V c 6 t) (blkB V c 7 t) (blkB V c 8 t) (blkB V c 9 t)
    ((datB V c).Φ t.castSucc) ((datB V c).owesAt none t.castSucc) Set.univ)
  have b0 : ∀ d, (datB V c).before 0 t d = blkB V c 0 t := fun d => (beforeB V c 0 rfl t d).trans rfl
  have b1 : ∀ d, (datB V c).before 1 t d = blkB V c 1 t := fun d => (beforeB V c 1 rfl t d).trans rfl
  have b2 : ∀ d, (datB V c).before 2 t d = blkB V c 2 t := fun d => (beforeB V c 2 rfl t d).trans rfl
  have b3 : ∀ d, (datB V c).before 3 t d = blkB V c 3 t := fun d => (beforeB V c 3 rfl t d).trans rfl
  have b4 : ∀ d, (datB V c).before 4 t d = blkB V c 4 t := fun d => (beforeB V c 4 rfl t d).trans rfl
  have b5 : ∀ d, (datB V c).before 5 t d = blkB V c 5 t := fun d => (beforeB V c 5 rfl t d).trans rfl
  have b6 : ∀ d, (datB V c).before 6 t d = blkB V c 6 t := fun d => (beforeB V c 6 rfl t d).trans rfl
  have b7 : ∀ d, (datB V c).before 7 t d = blkB V c 7 t := fun d => (beforeB V c 7 rfl t d).trans rfl
  have b8 : ∀ d, (datB V c).before 8 t d = blkB V c 8 t := fun d => (beforeB V c 8 rfl t d).trans rfl
  have b9 : ∀ d, (datB V c).before 9 t d = blkB V c 9 t := fun d => (beforeB V c 9 rfl t d).trans rfl
  exact BI.sep_mono (BI.Entails.refl _) (BI.sep_mono (BI.Entails.refl _) (BI.sep_mono (owns_found c (st3_0 t) _ _ b0) (BI.sep_mono (owns_found c (st3_1 t) _ _ b1) (BI.sep_mono (owns_found c (st3_2 t) _ _ b2) (BI.sep_mono (owns_found c (st3_3 t) _ _ b3) (BI.sep_mono (owns_found c (st3_4 t) _ _ b4) (BI.sep_mono (owns_found c (st3_5 t) _ _ b5) (BI.sep_mono (owns_found c (st3_6 t) _ _ b6) (BI.sep_mono (owns_found c (st3_7 t) _ _ b7) (BI.sep_mono (owns_found c (st3_8 t) _ _ b8) (BI.sep_mono (owns_found c (st3_9 t) _ _ b9) (owns_forget c (st3_10 t) _))))))))))))

/-! ## The regions over the thread state -/

variable (adm : (p : Fin 2) → (pcfgs (F := F) p).Adm)

/-- Both pipelines' proof data, each entered at its own valuation. -/
def pdats (V : Fin 2 → Vals F) : (p : Fin 2) → (c : Dev nD) → Dat τ (Elt F) (HIx 2) ℕ UU ℕ (Pipeline.pin (pcfgs (F := F)) adm p) c
  | ⟨0, _⟩ => fun c => datA (V 0) c
  | ⟨1, _⟩ => fun c => datB (V 1) c

/-- The references a TensorCore holds for good. -/
def ucRefs : Finset (DevRef τ sig) := (StableHlo.tcRefs τ sig).filter fun b => ¬ b.isScoped

omit [FloatOps F] in
/-- The unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

set_option backward.isDefEq.respectTransparency.types false in
/-- A region from a valuation `V p` to a valuation `Vp`, whatever the TensorCore holds beside. -/
def reg (V : Fin 2 → Vals F) (L : GSem nD τ sig → Finset (HIx 2)) (lv : GSem nD τ sig → HIx 2 → ℕ) (p : Fin 2) (Vp : Vals F)
    (lf : Pipeline.LaunchFacts₀ (nD := nD) (τ := τ) (Pipeline.pin (pcfgs (F := F)) adm) p)
    (R : Dev nD → sProp 𝕄)
    (hbody : ∀ c, BodyObligation (pdats adm V p c) (defs₀ (F := F)) 𝒱₀ none Set.univ)
    (hrec : ∀ c t, (pdats adm V p c).recorded t = seen (F := F) c) (howed : ∀ c t, (pdats adm V p c).owed t = 0)
    (hA : ∀ c w, (pdats adm V p c).A w = V p c (Pipeline.arrRef (Pipeline.pin (pcfgs (F := F)) adm p).spec w))
    (hq : ∀ c w, (pdats adm V p c).q w = Pipeline.shareOf (Pipeline.pin (pcfgs (F := F)) adm p).spec w)
    (hΦ : ∀ c t, (pdats adm V p c).Φ t = Pipeline.scopedRest (Pipeline.pin (pcfgs (F := F)) adm p).spec c)
    (hVp : ∀ c w, (pdats adm V p c).arrAt w (Pipeline.pin (pcfgs (F := F)) adm p).N = Vp c (Pipeline.arrRef (Pipeline.pin (pcfgs (F := F)) adm p).spec w))
    (hrest : ∀ c (b : Ref sig .tc), b ∉ Finset.univ.image (Pipeline.arrRef (Pipeline.pin (pcfgs (F := F)) adm p).spec) → Vp c b = V p c b) :
    Pipeline.RegionSeg (pcfgs (F := F)) adm (pdats adm V) none defs₀ 𝒱₀ L lv p where
  win := lf.win
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(unscopedBufs c (V p c) ∗ R c ∗ Pipeline.owesWithin c 0 (seen (F := F) c))
  post c := iprop(unscopedBufs c (Vp c) ∗ R c ∗ Pipeline.owesWithin c 0 (seen (F := F) c))
  X _ := BI.emp
  Y _ := BI.emp
  Z c := iprop(Pipeline.unscopedRest (Ix := HIx 2) (Name := ℕ) (U := UU) (Lvl := ℕ) (Pipeline.pin (pcfgs (F := F)) adm p).spec c (V p c) ∗ R c)
  hentry c := by
    rw [Pipeline.ownSems0_none]
    have hsplit := Pipeline.arrays_of_unscopedBufs_shared (p := p) (pcfgs (F := F)) adm (pdats adm V) lf.win lf.sharedIn lf.arr_whole c
      (fun w _ => hq c w) (V p c) (hA c)
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      rw [howed]
      iapply (Pipeline.owesWithin_mono c 0 (B := seen (F := F) c) (fun x hx => Or.inl ((hrec c _).symm ▸ hx))); iexact HO
    isplitr; · iempintro
    isplitl [Hrest] <;> iassumption
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays_shared (p := p) (pcfgs (F := F)) adm (Ix := HIx 2) (Name := ℕ) (U := UU) (Lvl := ℕ) lf.win lf.sharedIn lf.arr_whole c
      (pdats adm V) (fun w _ => hq c w) (V p c) (Vp c) ((pdats adm V p c).arrAt · (Pipeline.pin (pcfgs (F := F)) adm p).N) (hVp c) (hrest c)
    iintro ⟨Ha, HO, -, Hrest, HR⟩
    imodintro
    isplitl [Ha Hrest]
    · iapply hjoin; isplitl [Ha] <;> iassumption
    isplitl [HR]; · iexact HR
    unfold Pipeline.Dat.owesAt
    rw [howed]
    have hsub : (pdats adm V p c).bound none (Fin.last _) ⊆ seen (F := F) c := fun x hx => by
      rcases hx with h | ⟨_, _, e⟩
      · rwa [hrec c _] at h
      · subst e; exact Nat.zero_le _
    iapply (Pipeline.owesWithin_mono c 0 hsub); iexact HO

end Cert.Proof.Twin

end
-- ==== Proof.RegionValue.lean ====
/-
  What the two pipelines leave in their outputs: entry `r` of the 8192 is the head's value at row `r` of the two gathered
  arrays, the rows taken in blocks of 2048.
-/
module

public import proofs.«01_k».proof.Proof.Region
public import Idealize.ShloMosaic.Lib.Pipeline.ValueKit.Geometry

@[expose] public section

noncomputable section

namespace Cert.Proof.Twin

open Cert.KernelIdeal Cert.KernelIdeal.Gen

open Idealize.ShloMosaic
open Idealize.ShloMosaic.TcCoe
open Idealize.ShloMosaic.SparseCore.Cfg (HIx)
open Idealize.ShloMosaic.Pipeline (Dat Cfg Window)

variable {F : FTy → Type} [FloatOps F]

/-- Rows `2048 s` to `2048 s + 2047` of an array. -/
def rowsAt (X : S8192x128.Idx → Elt F .f32) (s : ℕ) (hs : s < 4) : S2048x128.Idx → Elt F .f32 :=
  fun j => X (fun | 0 => ⟨2048 * s + (j 0).val, by have : (j 0).val < 2048 := (j 0).isLt; show _ < 8192; omega⟩ | 1 => j 1)

/-- An entry read at the place that entry `y` of those rows has in the array. -/
theorem rowsAt_of_place (X : S8192x128.Idx → Elt F .f32) (s : ℕ) (hs : s < 4) (y : S2048x128.Idx) (j : S8192x128.Idx)
    (h0 : (j 0).val = s * 2048 + (y 0).val) (h1 : (j 1).val = (y 1).val) : X j = rowsAt X s hs y := by
  refine congrArg X (funext fun a => Fin.ext ?_)
  match a with
  | 0 => show (j 0).val = 2048 * s + (y 0).val; omega
  | 1 => exact h1

/-- The place of entry `j` of an output in its block of 4096. -/
def inRow (j : S1x8192.Idx) : S1x4096.Idx := fun | 0 => (0 : Fin 1) | 1 => ⟨(j 1).val % 4096, Nat.mod_lt _ (by decide)⟩

/-- A pipeline's results. -/
def outAll (U I : S8192x128.Idx → Elt F .f32) (W1 : S256x256.Idx → Elt F .f32) (b1 : S1x256.Idx → Elt F .f32) (W2 : S256x256.Idx → Elt F .f32)
    (b2 : S1x256.Idx → Elt F .f32) (Wo : S1x256.Idx → Elt F .f32) (bo : S1x1.Idx → Elt F .f32) : S1x8192.Idx → Elt F .f32 := fun j =>
  have h : (j 1).val < 8192 := (j 1).isLt
  outRow (rowsAt U (2 * ((j 1).val / 4096)) (by omega)) (rowsAt U (2 * ((j 1).val / 4096) + 1) (by omega))
    (rowsAt I (2 * ((j 1).val / 4096)) (by omega)) (rowsAt I (2 * ((j 1).val / 4096) + 1) (by omega)) W1 b1 W2 b2 Wo bo (inRow j)

/-- Entry `j`, at place `y` of the block of 4096 of grid point `t`. -/
theorem outAll_at (U I : S8192x128.Idx → Elt F .f32) (W1 : S256x256.Idx → Elt F .f32) (b1 : S1x256.Idx → Elt F .f32) (W2 : S256x256.Idx → Elt F .f32)
    (b2 : S1x256.Idx → Elt F .f32) (Wo : S1x256.Idx → Elt F .f32) (bo : S1x1.Idx → Elt F .f32) (t : ℕ) (ht : t < 2) (j : S1x8192.Idx) (y : S1x4096.Idx)
    (h : (j 1).val = 4096 * t + (y 1).val) :
    outAll U I W1 b1 W2 b2 Wo bo j
      = outRow (rowsAt U (2 * t) (by omega)) (rowsAt U (2 * t + 1) (by omega)) (rowsAt I (2 * t) (by omega)) (rowsAt I (2 * t + 1) (by omega)) W1 b1 W2 b2 Wo bo y := by
  have hy : (y 1).val < 4096 := (y 1).isLt
  have et : t = (j 1).val / 4096 := by omega
  have ey : y = inRow j := by
    funext a; apply Fin.ext
    match a with
    | 0 => have : (y 0).val < 1 := (y 0).isLt; show (y 0).val = 0; omega
    | 1 => show (y 1).val = (j 1).val % 4096; omega
  subst et ey; rfl

variable (V : Vals F) (c : Dev nD)

/-! ## The first pipeline -/

theorem idxA : ∀ t : Fin grid2.N, (win2_0.index t = ![2 * t.val, 0] ∧ win2_1.index t = ![2 * t.val + 1, 0] ∧ win2_2.index t = ![2 * t.val, 0] ∧ win2_3.index t = ![2 * t.val + 1, 0])
    ∧ (win2_4.index t = ![0, 0] ∧ win2_5.index t = ![0, 0] ∧ win2_6.index t = ![0, 0]) ∧ (win2_7.index t = ![0, 0] ∧ win2_8.index t = ![0, 0] ∧ win2_9.index t = ![0, 0])
    ∧ win2_10.index t = ![0, t.val] := by decide +kernel

/-- The weights' blocks are the weights. -/
theorem weightsA (t : Fin cfg2.N) : blkA V c 4 t = V c main_arg4 ∧ blkA V c 5 t = V c main_v2 ∧ blkA V c 6 t = V c main_arg6
    ∧ blkA V c 7 t = V c main_v3 ∧ blkA V c 8 t = V c main_arg8 ∧ blkA V c 9 t = V c main_v4 := by
  obtain ⟨-, ⟨e4, e5, e6⟩, ⟨e7, e8, e9⟩, -⟩ := idxA t
  refine ⟨funext fun y => ?_, funext fun y => ?_, funext fun y => ?_, funext fun y => ?_, funext fun y => ?_, funext fun y => ?_⟩
  · blk_simp [blkA]; refine congrArg (V c main_arg4) ?_; blk_ext [e4]
  · blk_simp [blkA]; refine congrArg (V c main_v2) ?_; blk_ext [e5]
  · blk_simp [blkA]; refine congrArg (V c main_arg6) ?_; blk_ext [e6]
  · blk_simp [blkA]; refine congrArg (V c main_v3) ?_; blk_ext [e7]
  · blk_simp [blkA]; refine congrArg (V c main_arg8) ?_; blk_ext [e8]
  · blk_simp [blkA]; refine congrArg (V c main_v4) ?_; blk_ext [e9]

/-- Its blocks of the gathered rows. -/
theorem rowsA (t : Fin cfg2.N) (ht : t.val < 2) : blkA V c 0 t = rowsAt (V c main_v0_0) (2 * t.val) (by omega) ∧ blkA V c 1 t = rowsAt (V c main_v0_0) (2 * t.val + 1) (by omega)
    ∧ blkA V c 2 t = rowsAt (V c main_v0_1) (2 * t.val) (by omega) ∧ blkA V c 3 t = rowsAt (V c main_v0_1) (2 * t.val + 1) (by omega) := by
  obtain ⟨⟨e0, e1, e2, e3⟩, -⟩ := idxA t
  refine ⟨funext fun y => ?_, funext fun y => ?_, funext fun y => ?_, funext fun y => ?_⟩
  · blk_simp [blkA]; exact rowsAt_of_place _ _ _ _ _ (by blk_simp [e0]) (by blk_simp [e0])
  · blk_simp [blkA]; exact rowsAt_of_place _ _ _ _ _ (by blk_simp [e1]) (by blk_simp [e1])
  · blk_simp [blkA]; exact rowsAt_of_place _ _ _ _ _ (by blk_simp [e2]) (by blk_simp [e2])
  · blk_simp [blkA]; exact rowsAt_of_place _ _ _ _ _ (by blk_simp [e3]) (by blk_simp [e3])

/-- Its output at the end of its run. -/
theorem arrA : (datA V c).arrAt 10 cfg2.N
    = outAll (V c main_v0_0) (V c main_v0_1) (V c main_arg4) (V c main_v2) (V c main_arg6) (V c main_v3) (V c main_arg8) (V c main_v4) := by
  refine (datA V c).arrAt_eq_of_covers 10 _ (by decide +kernel) fun t hf y => ?_
  have ht : t.val < 2 := t.isLt
  have e := (idxA t).2.2.2
  have hw := weightsA V c t
  have hr := rowsA V c t ht
  blk_simp [e]
  rw [outAll_at _ _ _ _ _ _ _ _ t.val ht _ y (by blk_simp [e]; show t.val * 4096 + (y 1).val = 4096 * t.val + (y 1).val; omega)]
  show rowA V c t y = _
  unfold rowA
  rw [hw.1, hw.2.1, hw.2.2.1, hw.2.2.2.1, hw.2.2.2.2.1, hw.2.2.2.2.2, hr.1, hr.2.1, hr.2.2.1, hr.2.2.2]

/-! ## The second pipeline -/

theorem idxB : ∀ t : Fin grid3.N, (win3_0.index t = ![2 * t.val, 0] ∧ win3_1.index t = ![2 * t.val + 1, 0] ∧ win3_2.index t = ![2 * t.val, 0] ∧ win3_3.index t = ![2 * t.val + 1, 0])
    ∧ (win3_4.index t = ![0, 0] ∧ win3_5.index t = ![0, 0] ∧ win3_6.index t = ![0, 0]) ∧ (win3_7.index t = ![0, 0] ∧ win3_8.index t = ![0, 0] ∧ win3_9.index t = ![0, 0])
    ∧ win3_10.index t = ![0, t.val] := by decide +kernel

/-- The weights' blocks are the weights. -/
theorem weightsB (t : Fin cfg3.N) : blkB V c 4 t = V c main_arg4 ∧ blkB V c 5 t = V c main_v6 ∧ blkB V c 6 t = V c main_arg6
    ∧ blkB V c 7 t = V c main_v7 ∧ blkB V c 8 t = V c main_arg8 ∧ blkB V c 9 t = V c main_v8 := by
  obtain ⟨-, ⟨e4, e5, e6⟩, ⟨e7, e8, e9⟩, -⟩ := idxB t
  refine ⟨funext fun y => ?_, funext fun y => ?_, funext fun y => ?_, funext fun y => ?_, funext fun y => ?_, funext fun y => ?_⟩
  · blk_simp [blkB]; refine congrArg (V c main_arg4) ?_; blk_ext [e4]
  · blk_simp [blkB]; refine congrArg (V c main_v6) ?_; blk_ext [e5]
  · blk_simp [blkB]; refine congrArg (V c main_arg6) ?_; blk_ext [e6]
  · blk_simp [blkB]; refine congrArg (V c main_v7) ?_; blk_ext [e7]
  · blk_simp [blkB]; refine congrArg (V c main_arg8) ?_; blk_ext [e8]
  · blk_simp [blkB]; refine congrArg (V c main_v8) ?_; blk_ext [e9]

/-- Its blocks of the gathered rows. -/
theorem rowsB (t : Fin cfg3.N) (ht : t.val < 2) : blkB V c 0 t = rowsAt (V c main_v1_0) (2 * t.val) (by omega) ∧ blkB V c 1 t = rowsAt (V c main_v1_0) (2 * t.val + 1) (by omega)
    ∧ blkB V c 2 t = rowsAt (V c main_v1_1) (2 * t.val) (by omega) ∧ blkB V c 3 t = rowsAt (V c main_v1_1) (2 * t.val + 1) (by omega) := by
  obtain ⟨⟨e0, e1, e2, e3⟩, -⟩ := idxB t
  refine ⟨funext fun y => ?_, funext fun y => ?_, funext fun y => ?_, funext fun y => ?_⟩
  · blk_simp [blkB]; exact rowsAt_of_place _ _ _ _ _ (by blk_simp [e0]) (by blk_simp [e0])
  · blk_simp [blkB]; exact rowsAt_of_place _ _ _ _ _ (by blk_simp [e1]) (by blk_simp [e1])
  · blk_simp [blkB]; exact rowsAt_of_place _ _ _ _ _ (by blk_simp [e2]) (by blk_simp [e2])
  · blk_simp [blkB]; exact rowsAt_of_place _ _ _ _ _ (by blk_simp [e3]) (by blk_simp [e3])

/-- Its output at the end of its run. -/
theorem arrB : (datB V c).arrAt 10 cfg3.N
    = outAll (V c main_v1_0) (V c main_v1_1) (V c main_arg4) (V c main_v6) (V c main_arg6) (V c main_v7) (V c main_arg8) (V c main_v8) := by
  refine (datB V c).arrAt_eq_of_covers 10 _ (by decide +kernel) fun t hf y => ?_
  have ht : t.val < 2 := t.isLt
  have e := (idxB t).2.2.2
  have hw := weightsB V c t
  have hr := rowsB V c t ht
  blk_simp [e]
  rw [outAll_at _ _ _ _ _ _ _ _ t.val ht _ y (by blk_simp [e]; show t.val * 4096 + (y 1).val = 4096 * t.val + (y 1).val; omega)]
  show rowB V c t y = _
  unfold rowB
  rw [hw.1, hw.2.1, hw.2.2.1, hw.2.2.2.1, hw.2.2.2.2.1, hw.2.2.2.2.2, hr.1, hr.2.1, hr.2.2.1, hr.2.2.2]

end Cert.Proof.Twin

end
-- ==== Proof.Hand.lean ====
/-
  Around a SparseCore call: the TensorCore's buffers split into the tasks' parts, and the tasks' parts back together, the
  outputs at the gathered rows; the TensorCore's buffers at the valuation each stage leaves.
-/
module

public import proofs.«01_k».proof.Proof.Calls
public import proofs.«01_k».proof.Proof.RegionValue

@[expose] public section

set_option synthInstance.maxSize 4096
set_option synthInstance.maxHeartbeats 200000

noncomputable section

namespace Cert.Proof.Twin

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

/-! ## A call's operands, dealt to the tasks and gathered again -/

section Deal

variable (d : Dev nD) (ou oi : Memref sig .scVector .hbm S8192x128 .f32) (hou : ou.IsWhole) (hoi : oi.IsWhole) (start : ℕ) (h : start + 8192 ≤ 16384)

/-- The lists and the tables, whole. -/
abbrev readsAll : sProp 𝕄 :=
  iprop((xuV.view.loc (V d 0 0) ↦{fullShare} xuAt m d) ∗ (xiV.view.loc (V d 0 0) ↦{fullShare} xiAt m d)
    ∗ (wuV.view.loc (V d 0 0) ↦{fullShare} tuAt m d) ∗ (wiV.view.loc (V d 0 0) ↦{fullShare} tiAt m d))

/-- What task `w` is handed, and what it hands back. -/
abbrev handedAt (w : Fin 32) : sProp 𝕄 :=
  iprop(((xuV.view.loc (V d 0 0) ↦{sh w} xuAt m d) ∗ (xiV.view.loc (V d 0 0) ↦{sh w} xiAt m d)
    ∗ (wuV.view.loc (V d 0 0) ↦{sh w} tuAt m d) ∗ (wiV.view.loc (V d 0 0) ↦{sh w} tiAt m d)) ∗ blkAny d 0 0 w ou ∗ blkAny d 0 0 w oi)
abbrev backAt (w : Fin 32) : sProp 𝕄 :=
  iprop(((xuV.view.loc (V d 0 0) ↦{sh w} xuAt m d) ∗ (xiV.view.loc (V d 0 0) ↦{sh w} xiAt m d)
    ∗ (wuV.view.loc (V d 0 0) ↦{sh w} tuAt m d) ∗ (wiV.view.loc (V d 0 0) ↦{sh w} tiAt m d))
    ∗ blkAt d 0 0 start h w ou (xuAt m d) (tuAt m d) ∗ blkAt d 0 0 start h w oi (xiAt m d) (tiAt m d))

theorem reads_dealt : (readsAll m d : sProp 𝕄) = bigSep Finset.univ fun w : Fin 32 =>
    iprop((xuV.view.loc (V d 0 0) ↦{sh w} xuAt m d) ∗ (xiV.view.loc (V d 0 0) ↦{sh w} xiAt m d)
      ∗ (wuV.view.loc (V d 0 0) ↦{sh w} tuAt m d) ∗ (wiV.view.loc (V d 0 0) ↦{sh w} tiAt m d)) := by
  unfold readsAll
  rw [bigSep_sep', bigSep_sep', bigSep_sep', dealt (xuV.view.loc (V d 0 0)), dealt (xiV.view.loc (V d 0 0)), dealt (wuV.view.loc (V d 0 0)), dealt (wiV.view.loc (V d 0 0))]

include hou in
theorem out_dealt (f : Buf (Elt F) (ou.view.loc (V d 0 0))) :
    (ou.view.loc (V d 0 0) ↦{fullShare} f : sProp 𝕄) ⊢ bigSep Finset.univ fun w : Fin 32 => blkAny d 0 0 w ou := by
  rw [blocks_eq ou hou]
  have one : ∀ w : Fin 32, (ou.view.loc (V d 0 0) ↦[(blk w ou).view.set]{fullShare} f : sProp 𝕄) ⊢ blkAny d 0 0 w ou := fun w => by
    iintro H; iexists f; iexact H
  exact bigSep_mono fun w _ => one w

include hou hoi in
theorem hand_out (fu : Buf (Elt F) (ou.view.loc (V d 0 0))) (fi : Buf (Elt F) (oi.view.loc (V d 0 0))) :
    iprop(readsAll m d ∗ (ou.view.loc (V d 0 0) ↦{fullShare} fu) ∗ (oi.view.loc (V d 0 0) ↦{fullShare} fi))
      ⊢ (bigSep Finset.univ fun w : Fin 32 => handedAt m d ou oi w : sProp 𝕄) := by
  unfold handedAt
  rw [bigSep_sep', ← reads_dealt, bigSep_sep']
  exact BI.sep_mono (BI.Entails.refl _) (BI.sep_mono (out_dealt d ou hou fu) (out_dealt d oi hoi fi))

include hou hoi in
theorem hand_back :
    (bigSep Finset.univ fun w : Fin 32 => backAt m d ou oi start h w : sProp 𝕄)
      ⊢ iprop(readsAll m d ∗ (∃ f, ⌜ou.view.read (Elt F) f = rows8192 (xuAt m d) (tuAt m d) start h⌝ ∗ (ou.view.loc (V d 0 0) ↦{fullShare} f))
          ∗ (∃ f, ⌜oi.view.read (Elt F) f = rows8192 (xiAt m d) (tiAt m d) start h⌝ ∗ (oi.view.loc (V d 0 0) ↦{fullShare} f))) := by
  unfold backAt
  rw [bigSep_sep', ← reads_dealt, bigSep_sep']
  exact BI.sep_mono (BI.Entails.refl _) (BI.sep_mono (blocks_join ou hou d 0 0 _ _ start h) (blocks_join oi hoi d 0 0 _ _ start h))

end Deal

/-! What a task is handed and hands back does not depend on which subcore runs it, but for its number. -/

theorem go0_eq (d : Dev nD) (c : Fin τ.nSC) (i : Fin τ.nSub) : (goOf m 0 d c i : sProp 𝕄) = handedAt m d u0 i0 (taskNo c i) := by
  rw [show (goOf m 0 d c i : sProp 𝕄) = handed m d c i u0 i0 from rfl]
theorem go1_eq (d : Dev nD) (c : Fin τ.nSC) (i : Fin τ.nSub) : (goOf m 1 d c i : sProp 𝕄) = handedAt m d u1 i1 (taskNo c i) := by
  rw [show (goOf m 1 d c i : sProp 𝕄) = handed m d c i u1 i1 from rfl]
theorem td0_eq (d : Dev nD) (c : Fin τ.nSC) (i : Fin τ.nSub) : (tdOf m 0 d c i : sProp 𝕄) = backAt m d u0 i0 0 half0 (taskNo c i) := by
  rw [show (tdOf m 0 d c i : sProp 𝕄) = back m d c i u0 i0 0 half0 from rfl]
theorem td1_eq (d : Dev nD) (c : Fin τ.nSC) (i : Fin τ.nSub) : (tdOf m 1 d c i : sProp 𝕄) = backAt m d u1 i1 8192 half1 (taskNo c i) := by
  rw [show (tdOf m 1 d c i : sProp 𝕄) = back m d c i u1 i1 8192 half1 from rfl]

/-- The two calls' payloads, over the tasks' numbers. -/
theorem st0_eq (d : Dev nD) : (bigSep Finset.univ fun c : Fin ((K (F := F)).nCore 0) => (P m).st 0 d c) = bigSep Finset.univ fun w : Fin 32 => handedAt m d u0 i0 w := by
  rw [← bigSep_tasks (fun w => handedAt m d u0 i0 w)]
  exact bigSep_congr fun c _ => (bigSep_congr fun i _ => go0_eq m d ((K (F := F)).core 0 c) ((K (F := F)).sub 0 i) :
    (bigSep Finset.univ fun i : Fin ((K (F := F)).nSub 0) => goOf m 0 d ((K (F := F)).core 0 c) ((K (F := F)).sub 0 i)) = _)
theorem st1_eq (d : Dev nD) : (bigSep Finset.univ fun c : Fin ((K (F := F)).nCore 1) => (P m).st 1 d c) = bigSep Finset.univ fun w : Fin 32 => handedAt m d u1 i1 w := by
  rw [← bigSep_tasks (fun w => handedAt m d u1 i1 w)]
  exact bigSep_congr fun c _ => (bigSep_congr fun i _ => go1_eq m d ((K (F := F)).core 1 c) ((K (F := F)).sub 1 i) :
    (bigSep Finset.univ fun i : Fin ((K (F := F)).nSub 1) => goOf m 1 d ((K (F := F)).core 1 c) ((K (F := F)).sub 1 i)) = _)
theorem dn0_eq (d : Dev nD) : (bigSep Finset.univ fun c : Fin ((K (F := F)).nCore 0) => (P m).dn 0 d c) = bigSep Finset.univ fun w : Fin 32 => backAt m d u0 i0 0 half0 w := by
  rw [← bigSep_tasks (fun w => backAt m d u0 i0 0 half0 w)]
  exact bigSep_congr fun c _ => (bigSep_congr fun i _ => td0_eq m d ((K (F := F)).core 0 c) ((K (F := F)).sub 0 i) :
    (bigSep Finset.univ fun i : Fin ((K (F := F)).nSub 0) => tdOf m 0 d ((K (F := F)).core 0 c) ((K (F := F)).sub 0 i)) = _)
theorem dn1_eq (d : Dev nD) : (bigSep Finset.univ fun c : Fin ((K (F := F)).nCore 1) => (P m).dn 1 d c) = bigSep Finset.univ fun w : Fin 32 => backAt m d u1 i1 8192 half1 w := by
  rw [← bigSep_tasks (fun w => backAt m d u1 i1 8192 half1 w)]
  exact bigSep_congr fun c _ => (bigSep_congr fun i _ => td1_eq m d ((K (F := F)).core 1 c) ((K (F := F)).sub 1 i) :
    (bigSep Finset.univ fun i : Fin ((K (F := F)).nSub 1) => tdOf m 1 d ((K (F := F)).core 1 c) ((K (F := F)).sub 1 i)) = _)

/-! ## The TensorCore's buffers -/

/-- The buffer that a TensorCore reference names. -/
abbrev bT (r : Ref sig .tc) : DevRef τ sig := Proc.devRef .tc r

/-- The buffers at the launch; -/
def V0 (d : Dev nD) : Valuation τ sig (Elt F) := fun b => m (d, b)
/-- after the first call; -/
def V1 (d : Dev nD) : Valuation τ sig (Elt F) :=
  Function.update (Function.update (V0 m d) (bT main_v0_0) (rows8192 (xuAt m d) (tuAt m d) 0 half0)) (bT main_v0_1) (rows8192 (xiAt m d) (tiAt m d) 0 half0)
/-- after the second. -/
def V2 (d : Dev nD) : Valuation τ sig (Elt F) :=
  Function.update (Function.update (V1 m d) (bT main_v1_0) (rows8192 (xuAt m d) (tuAt m d) 8192 half1)) (bT main_v1_1) (rows8192 (xiAt m d) (tiAt m d) 8192 half1)

/-- References among the buffers held for good, taken out. -/
theorem held_out (d : Dev nD) (W : Valuation τ sig (Elt F)) (l : List (Ref sig .tc)) (hn : l.Nodup) (hs : ∀ r ∈ l, r.isScoped = false) :
    (StableHlo.held (T d) ucRefs W : sProp 𝕄)
      = (l.map bT).foldr (fun b R => iprop(((d, b) ↦{fullShare} W b) ∗ R)) (StableHlo.held (T d) (ucRefs \ (l.map bT).toFinset) W) := by
  unfold StableHlo.held
  refine taken_out _ _ _ (hn.map fun _ _ h => Proc.devRef_injective (.tc : Proc τ) h) fun x hx => ?_
  obtain ⟨r, hr, rfl⟩ := List.mem_map.mp hx
  exact Finset.mem_filter.mpr ⟨StableHlo.devRef_mem_tcRefs r, by
    show ¬ ((Proc.devRef .tc r : DevRef τ sig).isScoped = true); rw [show (Proc.devRef .tc r : DevRef τ sig).isScoped = r.isScoped from rfl, hs r hr]; decide⟩

/-- What the two calls take. -/
abbrev ops0 : List (Ref sig .tc) := [main_arg0, main_arg1, main_arg2, main_arg3, main_v0_0, main_v0_1]
abbrev ops1 : List (Ref sig .tc) := [main_arg0, main_arg1, main_arg2, main_arg3, main_v1_0, main_v1_1]

theorem held_rest (d : Dev nD) (W W' : Valuation τ sig (Elt F)) (l : List (Ref sig .tc)) (hW : ∀ b, b ∉ (l.map bT).toFinset → W b = W' b) :
    (StableHlo.held (T d) (ucRefs \ (l.map bT).toFinset) W : sProp 𝕄) = StableHlo.held (T d) (ucRefs \ (l.map bT).toFinset) W' :=
  StableHlo.held_congr _ fun b hb => hW b (Finset.mem_sdiff.mp hb).2

/-- Two arrays' new contents leave the others'. -/
theorem two_other (W : Valuation τ sig (Elt F)) (r r' : Ref sig .tc) (f : (bT r).ty.Contents (Elt F)) (f' : (bT r').ty.Contents (Elt F)) (b : DevRef τ sig)
    (h : b ≠ bT r) (h' : b ≠ bT r') : Function.update (Function.update W (bT r) f) (bT r') f' b = W b := by
  rw [Function.update_of_ne h', Function.update_of_ne h]

/-- The references of a call's lists and tables are not its outputs'. -/
theorem bT_ne {r r' : Ref sig .tc} (h : r ≠ r') : bT r ≠ bT r' := fun e => h (Proc.devRef_injective (.tc : Proc τ) e)

/-- What the calls leave of a buffer that is not an output of theirs; -/
theorem V1_other (d : Dev nD) (r : Ref sig .tc) (h : r ∉ [main_v0_0, main_v0_1]) : V1 m d (bT r) = m (d, bT r) :=
  two_other (V0 m d) main_v0_0 main_v0_1 _ _ _ (bT_ne fun e => h (by rw [e]; decide)) (bT_ne fun e => h (by rw [e]; decide))
theorem V2_other (d : Dev nD) (r : Ref sig .tc) (h : r ∉ [main_v1_0, main_v1_1]) : V2 m d (bT r) = V1 m d (bT r) :=
  two_other (V1 m d) main_v1_0 main_v1_1 _ _ _ (bT_ne fun e => h (by rw [e]; decide)) (bT_ne fun e => h (by rw [e]; decide))
/-- and of their outputs. -/
theorem V1_outs (d : Dev nD) : V1 m d (bT main_v0_0) = rows8192 (xuAt m d) (tuAt m d) 0 half0 ∧ V1 m d (bT main_v0_1) = rows8192 (xiAt m d) (tiAt m d) 0 half0 :=
  ⟨(Function.update_of_ne (bT_ne (by decide)) _ _).trans (Function.update_self _ _ _), Function.update_self _ _ _⟩
theorem V2_outs (d : Dev nD) : V2 m d (bT main_v1_0) = rows8192 (xuAt m d) (tuAt m d) 8192 half1 ∧ V2 m d (bT main_v1_1) = rows8192 (xiAt m d) (tiAt m d) 8192 half1 :=
  ⟨(Function.update_of_ne (bT_ne (by decide)) _ _).trans (Function.update_self _ _ _), Function.update_self _ _ _⟩

theorem call0_in (d : Dev nD) :
    (StableHlo.held (T d) ucRefs (V0 m d) : sProp 𝕄)
      ⊢ iprop((bigSep Finset.univ fun c : Fin ((K (F := F)).nCore 0) => (P m).st 0 d c) ∗ StableHlo.held (T d) (ucRefs \ (ops0.map bT).toFinset) (V0 m d)) := by
  rw [held_out d (V0 m d) ops0 (by decide) (by decide), st0_eq]
  show iprop(_ ∗ _ ∗ _ ∗ _ ∗ _ ∗ _ ∗ StableHlo.held _ _ _) ⊢ _
  iintro ⟨H0, H1, H2, H3, Hu, Hi, Hr⟩
  isplitr [Hr]
  · iapply (hand_out m d u0 i0 (Memref.isWhole_whole _) (Memref.isWhole_whole _) (V0 m d (bT main_v0_0)) (V0 m d (bT main_v0_1)))
    isplitl [H0 H1 H2 H3]
    · isplitl [H0]; · iexact H0
      isplitl [H1]; · iexact H1
      isplitl [H2]; · iexact H2
      iexact H3
    isplitl [Hu]; · iexact Hu
    iexact Hi
  iexact Hr

theorem call0_out (d : Dev nD) :
    iprop((bigSep Finset.univ fun c : Fin ((K (F := F)).nCore 0) => (P m).dn 0 d c) ∗ StableHlo.held (T d) (ucRefs \ (ops0.map bT).toFinset) (V0 m d))
      ⊢ (StableHlo.held (T d) ucRefs (V1 m d) : sProp 𝕄) := by
  rw [held_out d (V1 m d) ops0 (by decide) (by decide), dn0_eq, held_rest d (V0 m d) (V1 m d) ops0 (fun b hb => by
    unfold V1; rw [two_other] <;> (rintro rfl; exact hb (by simp)))]
  show _ ⊢ iprop(_ ∗ _ ∗ _ ∗ _ ∗ _ ∗ _ ∗ StableHlo.held _ _ _)
  iintro ⟨H, Hr⟩
  ihave H' := (hand_back m d u0 i0 (Memref.isWhole_whole _) (Memref.isWhole_whole _) 0 half0) $$ H
  icases H' with ⟨⟨H0, H1, H2, H3⟩, ⟨%fu, %eu, Hu⟩, ⟨%fi, %ei, Hi⟩⟩
  obtain rfl : fu = rows8192 (xuAt m d) (tuAt m d) 0 half0 := eu
  obtain rfl : fi = rows8192 (xiAt m d) (tiAt m d) 0 half0 := ei
  rw [(V1_outs m d).1, (V1_outs m d).2, V1_other m d main_arg0 (by decide), V1_other m d main_arg1 (by decide), V1_other m d main_arg2 (by decide), V1_other m d main_arg3 (by decide)]
  isplitl [H0]; · iexact H0
  isplitl [H1]; · iexact H1
  isplitl [H2]; · iexact H2
  isplitl [H3]; · iexact H3
  isplitl [Hu]; · iexact Hu
  isplitl [Hi]; · iexact Hi
  iexact Hr

theorem call1_in (d : Dev nD) :
    (StableHlo.held (T d) ucRefs (V1 m d) : sProp 𝕄)
      ⊢ iprop((bigSep Finset.univ fun c : Fin ((K (F := F)).nCore 1) => (P m).st 1 d c) ∗ StableHlo.held (T d) (ucRefs \ (ops1.map bT).toFinset) (V1 m d)) := by
  rw [held_out d (V1 m d) ops1 (by decide) (by decide), st1_eq]
  show iprop(_ ∗ _ ∗ _ ∗ _ ∗ _ ∗ _ ∗ StableHlo.held _ _ _) ⊢ _
  rw [V1_other m d main_arg0 (by decide), V1_other m d main_arg1 (by decide), V1_other m d main_arg2 (by decide), V1_other m d main_arg3 (by decide)]
  iintro ⟨H0, H1, H2, H3, Hu, Hi, Hr⟩
  isplitr [Hr]
  · iapply (hand_out m d u1 i1 (Memref.isWhole_whole _) (Memref.isWhole_whole _) (V1 m d (bT main_v1_0)) (V1 m d (bT main_v1_1)))
    isplitl [H0 H1 H2 H3]
    · isplitl [H0]; · iexact H0
      isplitl [H1]; · iexact H1
      isplitl [H2]; · iexact H2
      iexact H3
    isplitl [Hu]; · iexact Hu
    iexact Hi
  iexact Hr

theorem call1_out (d : Dev nD) :
    iprop((bigSep Finset.univ fun c : Fin ((K (F := F)).nCore 1) => (P m).dn 1 d c) ∗ StableHlo.held (T d) (ucRefs \ (ops1.map bT).toFinset) (V1 m d))
      ⊢ (StableHlo.held (T d) ucRefs (V2 m d) : sProp 𝕄) := by
  rw [held_out d (V2 m d) ops1 (by decide) (by decide), dn1_eq, held_rest d (V1 m d) (V2 m d) ops1 (fun b hb => by
    unfold V2; rw [two_other] <;> (rintro rfl; exact hb (by simp)))]
  show _ ⊢ iprop(_ ∗ _ ∗ _ ∗ _ ∗ _ ∗ _ ∗ StableHlo.held _ _ _)
  iintro ⟨H, Hr⟩
  ihave H' := (hand_back m d u1 i1 (Memref.isWhole_whole _) (Memref.isWhole_whole _) 8192 half1) $$ H
  icases H' with ⟨⟨H0, H1, H2, H3⟩, ⟨%fu, %eu, Hu⟩, ⟨%fi, %ei, Hi⟩⟩
  obtain rfl : fu = rows8192 (xuAt m d) (tuAt m d) 8192 half1 := eu
  obtain rfl : fi = rows8192 (xiAt m d) (tiAt m d) 8192 half1 := ei
  rw [(V2_outs m d).1, (V2_outs m d).2, V2_other m d main_arg0 (by decide), V2_other m d main_arg1 (by decide), V2_other m d main_arg2 (by decide), V2_other m d main_arg3 (by decide), V1_other m d main_arg0 (by decide), V1_other m d main_arg1 (by decide), V1_other m d main_arg2 (by decide), V1_other m d main_arg3 (by decide)]
  isplitl [H0]; · iexact H0
  isplitl [H1]; · iexact H1
  isplitl [H2]; · iexact H2
  isplitl [H3]; · iexact H3
  isplitl [Hu]; · iexact Hu
  isplitl [Hi]; · iexact Hi
  iexact Hr

end Cert.Proof.Twin

end
-- ==== Proof.Main.lean ====
/-
  The whole run: @main on a TensorCore as its two SparseCore calls and the segments that follow them, the launch's ghost
  state, and the run from any launch memory whose lists name rows of the tables.
-/
module

public import proofs.«01_k».proof.Proof.Obls
public import proofs.«01_k».proof.Proof.Hand

@[expose] public section

set_option synthInstance.maxSize 4096
set_option synthInstance.maxHeartbeats 200000

noncomputable section

namespace Cert.Proof.Twin

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## The TensorCore's buffers after the calls -/

/-- The host's operations before each pipeline and at the end. -/
abbrev hostA : List (HloOp τ sig (Elt F)) :=
  [StableHlo.reshape main_arg5 main_v2 (rfl : (.f32 : EltTy) = .f32) shapeCasts_S256_S1x256,
    StableHlo.reshape main_arg7 main_v3 (rfl : (.f32 : EltTy) = .f32) shapeCasts_S256_S1x256,
    StableHlo.reshape main_arg9 main_v4 (rfl : (.f32 : EltTy) = .f32) shapeCasts_S1_S1x1]
abbrev hostB : List (HloOp τ sig (Elt F)) :=
  [StableHlo.reshape main_arg5 main_v6 (rfl : (.f32 : EltTy) = .f32) shapeCasts_S256_S1x256,
    StableHlo.reshape main_arg7 main_v7 (rfl : (.f32 : EltTy) = .f32) shapeCasts_S256_S1x256,
    StableHlo.reshape main_arg9 main_v8 (rfl : (.f32 : EltTy) = .f32) shapeCasts_S1_S1x1]
abbrev hostC : List (HloOp τ sig (Elt F)) :=
  [StableHlo.binary main_v5 main_v9 main_v10 ((fun a b => concatenate S1x16384 1 [⟨S1x8192, a⟩, ⟨S1x8192, b⟩] concatenates_S1x8192_S1x8192_S1x16384_d1) :
      (⟨S1x8192, .f32⟩ : BufTy).Contents (Elt F) → (⟨S1x8192, .f32⟩ : BufTy).Contents (Elt F) → (⟨S1x16384, .f32⟩ : BufTy).Contents (Elt F)),
    StableHlo.reshape main_v10 main_v11 (rfl : (.f32 : EltTy) = .f32) shapeCasts_S1x16384_S16384x1]

/-- The buffers when the first pipeline is entered, when it is left, and so on to the end. -/
def V3 (d : Dev nD) : Valuation τ sig (Elt F) := StableHlo.after hostA (V2 m d)
def V4 (d : Dev nD) : Valuation τ sig (Elt F) := Function.update (V3 m d) (bT main_v5)
  (outAll (V3 m d (bT main_v0_0)) (V3 m d (bT main_v0_1)) (V3 m d (bT main_arg4)) (V3 m d (bT main_v2)) (V3 m d (bT main_arg6)) (V3 m d (bT main_v3)) (V3 m d (bT main_arg8)) (V3 m d (bT main_v4)))
def V5 (d : Dev nD) : Valuation τ sig (Elt F) := StableHlo.after hostB (V4 m d)
def V6 (d : Dev nD) : Valuation τ sig (Elt F) := Function.update (V5 m d) (bT main_v9)
  (outAll (V5 m d (bT main_v1_0)) (V5 m d (bT main_v1_1)) (V5 m d (bT main_arg4)) (V5 m d (bT main_v6)) (V5 m d (bT main_arg6)) (V5 m d (bT main_v7)) (V5 m d (bT main_arg8)) (V5 m d (bT main_v8)))
def V7 (d : Dev nD) : Valuation τ sig (Elt F) := StableHlo.after hostC (V6 m d)

theorem V4_out (d : Dev nD) : V4 m d (bT main_v5)
    = outAll (V3 m d (bT main_v0_0)) (V3 m d (bT main_v0_1)) (V3 m d (bT main_arg4)) (V3 m d (bT main_v2)) (V3 m d (bT main_arg6)) (V3 m d (bT main_v3)) (V3 m d (bT main_arg8)) (V3 m d (bT main_v4)) :=
  Function.update_self _ _ _
theorem V4_other (d : Dev nD) (r : Ref sig .tc) (h : r ≠ main_v5) : V4 m d (bT r) = V3 m d (bT r) := Function.update_of_ne (bT_ne h) _ _
theorem V6_out (d : Dev nD) : V6 m d (bT main_v9)
    = outAll (V5 m d (bT main_v1_0)) (V5 m d (bT main_v1_1)) (V5 m d (bT main_arg4)) (V5 m d (bT main_v6)) (V5 m d (bT main_arg6)) (V5 m d (bT main_v7)) (V5 m d (bT main_arg8)) (V5 m d (bT main_v8)) :=
  Function.update_self _ _ _
theorem V6_other (d : Dev nD) (r : Ref sig .tc) (h : r ≠ main_v9) : V6 m d (bT r) = V5 m d (bT r) := Function.update_of_ne (bT_ne h) _ _

/-- A valuation per device, as the pipelines' proof data take it. -/
abbrev asVals (W : Dev nD → Valuation τ sig (Elt F)) : Vals F := fun c b => W c b

/-- The pipelines prefetch no table. -/
abbrev adm : (p : Fin 2) → (pcfgs (F := F) p).Adm := fun p => (cfgs p).toPCfg_adm

/-- What each pipeline is entered at. -/
abbrev VE : Fin 2 → Vals F := fun p => match p with | 0 => asVals (V3 m) | 1 => asVals (V5 m)

/-- What rides along the segments. -/
abbrev beside (c : Dev nD) : sProp 𝕄 := iprop(emp ∗ Pipeline.owesWithin c 0 (seen (F := F) c))

variable (L : GSem nD τ sig → Finset (HIx 2)) (lv : GSem nD τ sig → HIx 2 → ℕ)

theorem winA : ∀ w : Fin 11, w ≠ 10 → (win2 w).isOut = false ∧ Pipeline.arrRef spec2 w ≠ main_v5 := by decide
theorem winB : ∀ w : Fin 11, w ≠ 10 → (win3 w).isOut = false ∧ Pipeline.arrRef spec3 w ≠ main_v9 := by decide

/-- The valuation a pipeline leaves holds its arrays as its run leaves them. -/
theorem outsA (c : Dev nD) (w : Fin 11) : (datA (asVals (V3 m)) c).arrAt w cfg2.N = asVals (V4 m) c (Pipeline.arrRef spec2 w) := by
  by_cases hw : w = 10
  · subst hw
    exact (arrA (asVals (V3 m)) c).trans (V4_out m c).symm
  · exact ((datA (asVals (V3 m)) c).arrAt_in w (winA w hw).1 _).trans (V4_other m c _ (winA w hw).2).symm
theorem outsB (c : Dev nD) (w : Fin 11) : (datB (asVals (V5 m)) c).arrAt w cfg3.N = asVals (V6 m) c (Pipeline.arrRef spec3 w) := by
  by_cases hw : w = 10
  · subst hw
    exact (arrB (asVals (V5 m)) c).trans (V6_out m c).symm
  · exact ((datB (asVals (V5 m)) c).arrAt_in w (winB w hw).1 _).trans (V6_other m c _ (winB w hw).2).symm

attribute [local irreducible] Pipeline.scopedRest in
/-- Between its points a pipeline keeps the buffers it does not use. -/
theorem keepsA (c : Dev nD) (t) : (pdats adm (VE m) 0 c).Φ t = Pipeline.scopedRest (Pipeline.pin (pcfgs (F := F)) adm 0).spec c := by
  show Pipeline.scopedRest spec2 c = _
  rfl
attribute [local irreducible] Pipeline.scopedRest in
theorem keepsB (c : Dev nD) (t) : (pdats adm (VE m) 1 c).Φ t = Pipeline.scopedRest (Pipeline.pin (pcfgs (F := F)) adm 1).spec c := by
  show Pipeline.scopedRest spec3 c = _
  rfl

def regA : Pipeline.RegionSeg (pcfgs (F := F)) adm (pdats adm (VE m)) none (defs₀ (F := F)) 𝒱₀ L lv 0 :=
  reg adm (VE m) L lv 0 (asVals (V4 m)) launch₀2 (fun _ => iprop(emp)) (obligationA (asVals (V3 m))) (fun _ _ => rfl) (fun _ _ => rfl) (fun _ _ => rfl) (fun _ _ => rfl)
    (keepsA m) (outsA m) (fun c b hb => V4_other m c b fun e => hb (Finset.mem_image.mpr ⟨(10 : Fin 11), Finset.mem_univ _, e.symm⟩))

def regB : Pipeline.RegionSeg (pcfgs (F := F)) adm (pdats adm (VE m)) none (defs₀ (F := F)) 𝒱₀ L lv 1 :=
  reg adm (VE m) L lv 1 (asVals (V6 m)) launch₀3 (fun _ => iprop(emp)) (obligationB (asVals (V5 m))) (fun _ _ => rfl) (fun _ _ => rfl) (fun _ _ => rfl) (fun _ _ => rfl)
    (keepsB m) (outsB m) (fun c b hb => V6_other m c b fun e => hb (Finset.mem_image.mpr ⟨(10 : Fin 11), Finset.mem_univ _, e.symm⟩))

/-- A buffer that a TensorCore holds for good is among those held. -/
theorem mem_uc (r : Ref sig .tc) (h : r.isScoped = false) : bT r ∈ ucRefs :=
  Finset.mem_filter.mpr ⟨StableHlo.devRef_mem_tcRefs r, by show ¬ (r.isScoped = true); rw [h]; decide⟩
theorem two_uc (x y : Ref sig .tc) (hx : x.isScoped = false) (hy : y.isScoped = false) : ({bT x, bT y} : Finset (DevRef τ sig)) ⊆ ucRefs :=
  Finset.insert_subset (mem_uc x hx) (Finset.singleton_subset_iff.mpr (mem_uc y hy))

theorem hostA_uc : ∀ op ∈ (hostA : List (HloOp τ sig (Elt F))), op.bufs ⊆ ucRefs := by
  simp only [List.forall_mem_cons]
  exact ⟨two_uc _ _ rfl rfl, two_uc _ _ rfl rfl, two_uc _ _ rfl rfl, fun _ h => absurd h List.not_mem_nil⟩
theorem hostB_uc : ∀ op ∈ (hostB : List (HloOp τ sig (Elt F))), op.bufs ⊆ ucRefs := by
  simp only [List.forall_mem_cons]
  exact ⟨two_uc _ _ rfl rfl, two_uc _ _ rfl rfl, two_uc _ _ rfl rfl, fun _ h => absurd h List.not_mem_nil⟩
theorem hostC_uc : ∀ op ∈ (hostC : List (HloOp τ sig (Elt F))), op.bufs ⊆ ucRefs := by
  simp only [List.forall_mem_cons]
  exact ⟨Finset.insert_subset (mem_uc _ rfl) (two_uc _ _ rfl rfl), two_uc _ _ rfl rfl, fun _ h => absurd h List.not_mem_nil⟩
theorem hostA_fresh : ∀ op ∈ (hostA : List (HloOp τ sig (Elt F))), op.fresh = ∅ := by
  simp only [List.forall_mem_cons]
  exact ⟨rfl, rfl, rfl, fun _ h => absurd h List.not_mem_nil⟩
theorem hostB_fresh : ∀ op ∈ (hostB : List (HloOp τ sig (Elt F))), op.fresh = ∅ := by
  simp only [List.forall_mem_cons]
  exact ⟨rfl, rfl, rfl, fun _ h => absurd h List.not_mem_nil⟩
theorem hostC_fresh : ∀ op ∈ (hostC : List (HloOp τ sig (Elt F))), op.fresh = ∅ := by
  simp only [List.forall_mem_cons]
  exact ⟨rfl, rfl, fun _ h => absurd h List.not_mem_nil⟩

/-- What follows the calls: host operations, a pipeline, host operations, a pipeline, host operations. -/
def segs : List (Pipeline.Seg (Name := ℕ) (U := UU) (pcfgs (F := F)) adm (pdats adm (VE m)) none (defs₀ (F := F)) 𝒱₀ L lv) :=
  [.host (Pipeline.HostSeg.ofOps _ _ _ L lv ucRefs hostA hostA_uc hostA_fresh (V2 m) beside),
    .region (regA m L lv),
    .host (Pipeline.HostSeg.ofOps _ _ _ L lv ucRefs hostB hostB_uc hostB_fresh (V4 m) beside),
    .region (regB m L lv),
    .host (Pipeline.HostSeg.ofOps _ _ _ L lv ucRefs hostC hostC_uc hostC_fresh (V6 m) beside)]

theorem main_eq (d : Dev nD) : main (F := F) d = ((K (F := F)).run d 0 >>= fun _ => (K (F := F)).run d 1 >>= fun _ =>
    SparseCore.liftProg (Pipeline.Seg.run (segs m L lv))) := by
  rfl

/-- Each segment is entered as the one before leaves the buffers. -/
theorem chains : Pipeline.Seg.Chains (fun c => iprop(StableHlo.held (c : Thread nD τ) ucRefs (V2 m c) ∗ beside (F := F) c)) (segs m L lv)
    (fun c => iprop(StableHlo.held (c : Thread nD τ) ucRefs (V7 m c) ∗ beside (F := F) c)) := by
  have h : ∀ (W : Dev nD → Valuation τ sig (Elt F)) (c : Dev nD), (unscopedBufs c (asVals W c) : sProp 𝕄) = StableHlo.held (c : Thread nD τ) ucRefs (W c) :=
    fun W c => unscopedBufs_held c (W c)
  refine ⟨fun c => BI.Entails.refl _, fun c => ?_, fun c => ?_, fun c => ?_, fun c => ?_, fun c => BI.Entails.refl _⟩
  · exact BI.sep_mono (BIBase.Entails.of_eq (h (V3 m) c).symm) (BI.Entails.refl _)
  · exact BI.sep_mono (BIBase.Entails.of_eq (h (V4 m) c)) (BI.Entails.refl _)
  · exact BI.sep_mono (BIBase.Entails.of_eq (h (V5 m) c).symm) (BI.Entails.refl _)
  · exact BI.sep_mono (BIBase.Entails.of_eq (h (V6 m) c)) (BI.Entails.refl _)

theorem segs_pipes : Pipeline.Seg.pipes (segs m L lv) = [0, 1] := rfl

end Cert.Proof.Twin

end
-- ==== Proof.Whole.lean ====
/-
  The launch: its ghost state, @main's run on a TensorCore (the two SparseCore calls, then the segments of Main.lean),
  and the run of the whole program from any launch memory whose lists name rows of the tables.
-/
module

public import proofs.«01_k».proof.Proof.Main

@[expose] public section

set_option synthInstance.maxSize 4096
set_option synthInstance.maxHeartbeats 200000

noncomputable section

namespace Cert.Proof.Twin

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch's ghost state -/

/-- The pipelines' rounds in the ghost state. -/
def EP : Emb UP (MT nD τ sig (HIx 2) (Elt F) ℕ UU ℕ) := (Emb.inl : Emb UP (UP × Counters)).trans embR

instance : (EP (F := F)).LandsIn (upEmb : UEmb _ (MT nD τ sig (HIx 2) (Elt F) ℕ UU ℕ)) := by unfold EP; infer_instance

/-- What device `d`'s TensorCore is dealt beside its buffers: its pipelines' cells and tokens. -/
abbrev G (d : Dev nD) : sProp 𝕄 := Pipeline.ghostOn (pcfgs (F := F)) adm EP Finset.univ d

/-- The launch element: the handshakes' rounds, the pipelines' rounds, and no counter. -/
def u₀ : UU := (initOf (K (F := F)).hsCells (K (F := F)).hsToks, (initOf (Pipeline.cells (nD := nD) (τ := τ) (Pipeline.pin (pcfgs (F := F)) adm) cellOf_inj) (Pipeline.launchToks (nD := nD) (τ := τ) (Pipeline.pin (pcfgs (F := F)) adm) cellOf_inj), 1))

theorem deal_pipes :
    (BI.own (EP (F := F) (initOf (Pipeline.cells (nD := nD) (τ := τ) (Pipeline.pin (pcfgs (F := F)) adm) cellOf_inj) (Pipeline.launchToks (nD := nD) (τ := τ) (Pipeline.pin (pcfgs (F := F)) adm) cellOf_inj))) : sProp 𝕄)
      ⊢ iprop(|==> bigSep Finset.univ fun d : Dev nD => G d) := by
  iintro H
  imod (Pipeline.fund_ghost (Pipeline.pin (pcfgs (F := F)) adm) EP cellOf_inj) $$ H with ⟨Hg, Ht⟩
  imodintro
  rw [show (bigSep Finset.univ fun d : Dev nD => G (F := F) d) = _ from (bigSep_congr fun d _ => bigSep_sep' _ _ _).trans (bigSep_sep' _ _ _)]
  isplitl [Hg]; · iexact Hg
  iexact Ht

/-- The pipelines' part of the ghost state's right half. -/
theorem pipes_part (a : UP) (b : Counters) : (BI.own (embR (a, b)) : sProp 𝕄) ⊢ BI.own (EP (F := F) a) :=
  (own_pair_emb embR a b).trans sep_elim_left

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P m).x q thr) := by
  unfold u₀
  iintro Hu
  ihave H := (ownU_pair (initOf (K (F := F)).hsCells (K (F := F)).hsToks) _) $$ Hu
  icases H with ⟨HH, HR⟩
  ihave HP := (pipes_part _ _) $$ HR
  imod (deal_pipes (F := F)) $$ HP with HG
  imodintro
  isplitl [HH]; · iexact HH
  isplitl [HG]; · iexact HG
  rw [show (bigSep Finset.univ fun thr : Thread nD τ => bigSep Finset.univ fun q : Fin 2 => (P (F := F) m).x q thr) = bigSep Finset.univ fun _ => iprop(emp) from
    bigSep_congr fun _ _ => bigSep_emp_const _, emps]
  iempintro

/-! ## @main on a TensorCore -/

/-- What a TensorCore owes after the last call, beside the rest of its state: nothing. -/
theorem owes_out (d : Dev nD) :
    ((K (F := F)).tcSt EH d 2 : sProp 𝕄) ⊢ iprop(Pipeline.owesWithin d 0 (seen (F := F) d) ∗ (Pipeline.owesWithin d 0 (seen (F := F) d) -∗ (K (F := F)).tcSt EH d 2)) := by
  unfold SparseCore.Cfg.tcSt
  rw [(K (F := F)).Otc_end d (le_refl 2)]
  iintro ⟨⟨%W, %hW, HO⟩, Hrest⟩
  isplitl [HO]
  · iexists W
    isplitr; · ipureintro; exact fun p hp => hW p hp
    iexact HO
  iintro ⟨%W', %hW', HO⟩
  isplitl [HO]
  · iexists W'
    isplitr; · ipureintro; exact fun p hp => hW' hp
    iexact HO
  iexact Hrest

/-- What a TensorCore holds at the end: every buffer it holds for good, as the last host operation leaves it. -/
abbrev FIN (d : Dev nD) : sProp 𝕄 := StableHlo.held (d : Thread nD τ) ucRefs (V7 m d)

/-- The segments' run on a TensorCore. -/
theorem segs_run [∀ e, Nonempty (Elt F e)] (κ : GSem nD τ sig → ℕ) (d : Dev nD) (Q : PUnit → sProp 𝕄) :
    iprop((K (F := F)).ctx EH (P m) κ ∗ boundary (d : Thread nD τ) ∗ StableHlo.held (d : Thread nD τ) ucRefs (V2 m d) ∗ Pipeline.owesWithin d 0 (seen (F := F) d) ∗ G d
        ∗ (iprop(boundary (d : Thread nD τ) ∗ FIN m d ∗ Pipeline.owesWithin d 0 (seen (F := F) d)) -∗ Q ⟨⟩))
      ⊢ wp frame (wpE ((K (F := F)).defs (D (F := F))) 𝒱 (SparseCore.T d) none) Set.univ (SparseCore.liftProg (Pipeline.Seg.run (segs m (K (F := F)).L (K (F := F)).lev))) Q := by
  refine BIBase.Entails.trans ?_ ((K (F := F)).wp_liftProg (D (F := F)) 𝒱 (SparseCore.T d) Set.univ none (Pipeline.Seg.run (segs m (K (F := F)).L (K (F := F)).lev)) Q)
  refine BIBase.Entails.trans ?_ (Pipeline.wp_segs (pcfgs (F := F)) adm (pdats adm (VE m)) none cellOf_inj EP (defs₀ (F := F)) 𝒱₀ (K (F := F)).L (K (F := F)).lev d
    (segs m (K (F := F)).L (K (F := F)).lev) Finset.univ _ _ (by rw [segs_pipes]; decide) (fun p _ => Finset.mem_univ p) (chains m (K (F := F)).L (K (F := F)).lev))
  iintro ⟨Hctx, Hb, Hh, HO, HG, Hk⟩
  isplitl [Hk]
  · iintro ⟨Hb, Hh, -, HO⟩
    iapply Hk
    isplitl [Hb]; · iexact Hb
    isplitl [Hh]; · iexact Hh
    iexact HO
  isplitl [Hb]; · iexact Hb
  isplitl [Hh HO]
  · isplitl [Hh]; · iexact Hh
    isplitr; · iempintro
    iexact HO
  isplitl [Hctx]
  · iapply ((K (F := F)).ctx_levAts κ); iexact Hctx
  iexact HG

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = StableHlo.held (d : Thread nD τ) ucRefs (V0 m d) from unscopedBufs_held d (V0 m d),
    main_eq m (K (F := F)).L (K (F := F)).lev d]
  simp only [wp_bind]
  iintro ⟨#Hctx, Hst, ⟨Hb, Hub, Hts, -⟩, HG⟩
  ihave Hub := (call0_in m d) $$ Hub
  icases Hub with ⟨Hin, Hrest⟩
  iapply ((K (F := F)).wp_run (D (F := F)) 𝒱 (EH := EH) (P := P m) κ d 0) $$ [Hst Hin Hrest Hb Hts HG]
  isplitr; · iexact Hctx
  isplitl [Hst]; · iexact Hst
  isplitl [Hin]; · iexact Hin
  iintro ⟨Hst, Hdn⟩
  ihave Hub := (call0_out m d) $$ [Hdn Hrest]
  · isplitl [Hdn] <;> iassumption
  ihave Hub := (call1_in m d) $$ Hub
  icases Hub with ⟨Hin, Hrest⟩
  iapply ((K (F := F)).wp_run (D (F := F)) 𝒱 (EH := EH) (P := P m) κ d 1) $$ [Hst Hin Hrest Hb Hts HG]
  isplitr; · iexact Hctx
  isplitl [Hst]; · iexact Hst
  isplitl [Hin]; · iexact Hin
  iintro ⟨Hst, Hdn⟩
  ihave Hub := (call1_out m d) $$ [Hdn Hrest]
  · isplitl [Hdn] <;> iassumption
  ihave H := (show ((K (F := F)).tcSt EH d ((1 : Fin 2).val + 1) : sProp 𝕄) ⊢ _ from owes_out d) $$ Hst
  icases H with ⟨HO, Hst⟩
  iapply (segs_run m κ d)
  isplitr; · iexact Hctx
  isplitl [Hb]; · iexact Hb
  isplitl [Hub]; · iexact Hub
  isplitl [HO]; · iexact HO
  isplitl [HG]; · iexact HG
  iintro ⟨Hb, Hfin, HO⟩
  isplitl [Hst HO]
  · iapply Hst; iexact HO
  isplitl [Hfin]; · iexact Hfin
  isplitl [Hb] <;> iassumption

/-! ## The run -/

/-- The TensorCore's buffers read as the run leaves them. -/
def fq (d : Dev nD) (s' : Phys nD τ sig (Elt F)) : Prop := ∀ b ∈ ucRefs, s'.mem.mem (d, b) = V7 m d b

theorem hfin (d : Dev nD) (s' : Phys nD τ sig (Elt F)) : iprop(FIN m d ∗ SI s') ⊢ (⌜fq m d s'⌝ : sProp 𝕄) := by
  unfold FIN StableHlo.held
  exact (pointsTo_read_all ucRefs (fun b => (d, b)) (V7 m d) s').trans sep_elim_left

def QC : PUnit × MemSt nD τ sig (Elt F) → Prop := fun r => (∀ d : Dev nD, ∀ b ∈ ucRefs, r.2.mem (d, b) = V7 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => SparseCore.Cfg.VecSplit.of_plain (vecSplit m q))
    m ρ main (fun d => G d) (FIN m) (u₀ (F := F)) (sep_elim_left.trans (hu₀ m)) (hmain m ρ) (fq m) (hfin m) (QC m) (fun _ h hz => ⟨h, hz⟩)

end Cert.Proof.Twin

end
-- ==== Proof.Frames.lean ====
/-
  The kernel's run without a fault and with its arguments kept, at the machine's floats and at exact ones, from the
  precondition as the claims state it.
-/
module

public import proofs.«01_k».proof.Proof.Whole
public import proofs.«01_k».proof.Defs
public import Idealize.ShloMosaic.Lib.ReduceAll
public import Idealize.ShloMosaic.Lib.WordCmp
public import proofs.«01_k».proof.Proof.Gen.Kernel
public import proofs.«01_k».proof.Proof.Gen.Pre_in_range

@[expose] public section

noncomputable section

namespace Cert.Proof.Twin

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-! ## What the host operations keep -/

/-- The one buffer an operation writes, among those listed. -/
theorem one_among {y : Ref sig .tc} {W : List (Ref sig .tc)} (h : y ∈ W) : ({bT y} : Finset (DevRef τ sig)) ⊆ (W.map (Proc.devRef (τ := τ) .tc)).toFinset :=
  Finset.singleton_subset_iff.mpr (List.mem_toFinset.mpr (List.mem_map.mpr ⟨y, h, rfl⟩))

theorem V3_other (d : Dev nD) (r : Ref sig .tc) (h : r ∉ [main_v2, main_v3, main_v4]) : V3 m d (bT r) = V2 m d (bT r) :=
  StableHlo.after_of_writes_sub hostA _ (W := [main_v2, main_v3, main_v4]) ⟨one_among (by decide), one_among (by decide), one_among (by decide)⟩ h
theorem V5_other (d : Dev nD) (r : Ref sig .tc) (h : r ∉ [main_v6, main_v7, main_v8]) : V5 m d (bT r) = V4 m d (bT r) :=
  StableHlo.after_of_writes_sub hostB _ (W := [main_v6, main_v7, main_v8]) ⟨one_among (by decide), one_among (by decide), one_among (by decide)⟩ h
theorem V7_other (d : Dev nD) (r : Ref sig .tc) (h : r ∉ [main_v10, main_v11]) : V7 m d (bT r) = V6 m d (bT r) :=
  StableHlo.after_of_writes_sub hostC _ (W := [main_v10, main_v11]) ⟨one_among (by decide), one_among (by decide)⟩ h

/-- The buffers that the program writes. -/
abbrev written : List (Ref sig .tc) :=
  [main_v0_0, main_v0_1] ++ [main_v1_0, main_v1_1] ++ [main_v2, main_v3, main_v4] ++ [main_v5] ++ [main_v6, main_v7, main_v8] ++ [main_v9] ++ [main_v10, main_v11]

/-- A buffer that neither pipeline, no call and no host operation writes ends as it began. -/
theorem V7_kept (d : Dev nD) (r : Ref sig .tc) (h : r ∉ written) : V7 m d (bT r) = m (d, bT r) := by
  simp only [written, List.mem_append, not_or] at h
  obtain ⟨⟨⟨⟨⟨⟨h0, h1⟩, h2⟩, h3⟩, h4⟩, h5⟩, h6⟩ := h
  exact (V7_other m d r h6).trans <| (V6_other m d r fun e => h5 (List.mem_singleton.mpr e)).trans <| (V5_other m d r h4).trans <|
    (V4_other m d r fun e => h3 (List.mem_singleton.mpr e)).trans <| (V3_other m d r h2).trans <| (V2_other m d r h1).trans (V1_other m d r h0)

/-! ## The precondition -/

/-- The precondition, all ones: every word of both lists, signed, is at least 0 and below 100000, so it names a row. -/
theorem ok_of_pre (h : ∀ c : Dev nD, Cert.Pre_in_range.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))
      = fun _ => 1#1) : PreOK m := by
  have key : ∀ v : BitVec 32, IntOp.andi (IntOp.cmpi .sge v 0#32) (IntOp.cmpi .slt v 100000#32) = 1#1 → v.toNat < 100000 := by
    intro v e
    have e' := (WordCmp.andi_sge_zero_slt_ofNat (k := 100000) (by decide) v).symm.trans e
    by_contra hn
    rw [decide_eq_false hn] at e'
    exact absurd e' (by decide)
  intro d j
  have e := congrFun (h d) (fun a => a.elim0)
  simp only [Cert.Pre_in_range.fn, andi] at e
  obtain ⟨e1, e2⟩ := IntOp.andi_eq_one.mp e
  have s : Subsingleton Cert.Pre_in_range.S_.Idx := ⟨fun a b => funext fun i => i.elim0⟩
  exact ⟨key _ (Host.reduce_andi_all _ _ _ _ _ e1 j), key _ (Host.reduce_andi_all _ _ _ _ _ e2 j)⟩

/-! ## The frames -/

/-- What the frames say of a memory the run leaves. -/
def ArgsKept (m' : (ℓ : Loc nD τ sig) → Buf (Elt F) ℓ) : Prop := ∀ c : Dev nD,
  m' ((c.tc : Thread nD τ).loc main_arg0) = m ((c.tc : Thread nD τ).loc main_arg0) ∧ m' ((c.tc : Thread nD τ).loc main_arg1) = m ((c.tc : Thread nD τ).loc main_arg1)
  ∧ m' ((c.tc : Thread nD τ).loc main_arg2) = m ((c.tc : Thread nD τ).loc main_arg2) ∧ m' ((c.tc : Thread nD τ).loc main_arg3) = m ((c.tc : Thread nD τ).loc main_arg3)
  ∧ m' ((c.tc : Thread nD τ).loc main_arg4) = m ((c.tc : Thread nD τ).loc main_arg4) ∧ m' ((c.tc : Thread nD τ).loc main_arg5) = m ((c.tc : Thread nD τ).loc main_arg5)
  ∧ m' ((c.tc : Thread nD τ).loc main_arg6) = m ((c.tc : Thread nD τ).loc main_arg6) ∧ m' ((c.tc : Thread nD τ).loc main_arg7) = m ((c.tc : Thread nD τ).loc main_arg7)
  ∧ m' ((c.tc : Thread nD τ).loc main_arg8) = m ((c.tc : Thread nD τ).loc main_arg8) ∧ m' ((c.tc : Thread nD τ).loc main_arg9) = m ((c.tc : Thread nD τ).loc main_arg9)

theorem args_kept (m' : (ℓ : Loc nD τ sig) → Buf (Elt F) ℓ) (h : ∀ d : Dev nD, ∀ b ∈ ucRefs, m' (d, b) = V7 m d b) : ArgsKept m m' := by
  have one : ∀ (c : Dev nD) (r : Ref sig .tc), r.isScoped = false → r ∉ written → m' ((c.tc : Thread nD τ).loc r) = m ((c.tc : Thread nD τ).loc r) :=
    fun c r hs hw => (h c (bT r) (mem_uc r hs)).trans (V7_kept m c r hw)
  exact fun c => ⟨one c _ rfl (by decide), one c _ rfl (by decide), one c _ rfl (by decide), one c _ rfl (by decide), one c _ rfl (by decide),
    one c _ rfl (by decide), one c _ rfl (by decide), one c _ rfl (by decide), one c _ rfl (by decide), one c _ rfl (by decide)⟩

/-- The run, over any float values, with the arguments kept and every counter back at zero. -/
theorem frame_any [∀ e, Nonempty (Elt F e)] (h : PreOK m) :
    θ_run (Cert.KernelIdeal.defs (F := F)) (Cert.KernelIdeal.threads (F := F)) ⟨m, fun _ => 0, ρ⟩ (fun r => ArgsKept m r.2.mem ∧ r.2.sem = fun _ => 0) :=
  (θ_run (Cert.KernelIdeal.defs (F := F)) _ _).mono (fun _ h => ⟨args_kept m _ h.1, h.2⟩) (run_main m ρ h)

theorem frame_ideal : Cert.quiescent_KernelIdeal := fun m ρ hpre => frame_any (F := Ideal) m ρ (ok_of_pre m hpre)

end Cert.Proof.Twin

end
-- ==== Proof.FrameKernel.lean ====
/-
  The frame of the compiled kernel. The kernel and its idealized twin are one text, so the kernel's run over machine
  words is the run of `Frames.lean` at machine words.
-/
module

public import proofs.«01_k».proof.Proof.Frames

@[expose] public section

noncomputable section

namespace Cert.Proof.Twin

open Cert.KernelIdeal Cert.KernelIdeal.Gen

open Idealize.ShloMosaic
open Idealize.ShloMosaic.TcCoe
open Idealize.SL Idealize.SL.Sem

variable {F : FTy → Type} [FloatOps F]

set_option smartUnfolding false in
/-- The two programs have the same text, so the kernels they run are the same. -/
theorem defs₀_same : (Cert.Kernel.defs₀ (F := F)) = Cert.KernelIdeal.defs₀ := rfl

theorem sc_same : (Cert.Kernel.sc (F := F)) = Cert.KernelIdeal.sc := rfl

/-- The same launches and pipelines over the same kernels. -/
theorem defs_same : (Cert.Kernel.defs (F := F)) = Cert.KernelIdeal.defs :=
  congrArg (fun k => (Cert.KernelIdeal.sc (F := F)).defs (Pipeline.defs (Cert.KernelIdeal.pcfgs (F := F)) k)) defs₀_same

theorem threads_same : (Cert.Kernel.threads (F := F)) = Cert.KernelIdeal.threads := rfl

/-- **The frame of the kernel as it is compiled**: the same run, over machine words. -/
theorem frame_kernel : Cert.quiescent_Kernel := by
  intro m ρ hpre
  have h := frame_any (F := Bits) m ρ (ok_of_pre (F := Bits) m hpre)
  rw [← defs_same, ← threads_same] at h
  exact h

end Cert.Proof.Twin

end
-- ==== Proof.FrameRef.lean ====
/-
  The reference's frame: it is host operations alone, so its run is the fold of them, and it declares no semaphore.
-/
module

public import proofs.«01_k».proof.Defs
public import proofs.«01_k».proof.Proof.Gen.ReferenceIdeal.Run
public import proofs.«01_k».proof.Proof.Gen.Pre_in_range
public import Idealize.ShloMosaic.Lib.Quiescent

@[expose] public section

noncomputable section

namespace Cert.Proof.Twin

open Cert.ReferenceIdeal Cert.ReferenceIdeal.Gen
open Idealize.ShloMosaic
open Idealize.ShloMosaic.TcCoe
open Idealize.SL Idealize.SL.Sem

/-- The reference ends from any memory, its arguments kept and every counter (it has none) at zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the indices are in range. -/
theorem frame_ref_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Twin

end
-- ==== Proof.Score.lean ====
/-
  The score of one pair of rows: two dense layers with a leaky ramp and a last one, over exact values. Both programs are
  shown to give it.
-/
module

public import Idealize.ShloMosaic.Lib.Pointwise

@[expose] public section

noncomputable section

namespace Cert.Proof.Twin

open Idealize.ShloMosaic

/-- The slope of the ramp below zero: the number that the word nearest to a hundredth names. -/
def slope : EReal := FloatOps.ofBits (F := Ideal) .f32 0x3C23D70A#32

/-- The leaky ramp. -/
def ramp (x : EReal) : EReal := if 0 ≤ x then x else slope * x

/-- The first layer's unit `k`, of a user's row and an item's. -/
def unit1 (u i : Fin 128 → EReal) (W1 : Fin 256 → Fin 256 → EReal) (b1 : Fin 256 → EReal) (k : Fin 256) : EReal :=
  ramp ((∑ t : Fin 128, u t * W1 k ⟨t, by omega⟩) + (∑ t : Fin 128, i t * W1 k ⟨128 + t, by omega⟩) + b1 k)

/-- The second layer's unit `k`, of the first's. -/
def unit2 (a : Fin 256 → EReal) (W2 : Fin 256 → Fin 256 → EReal) (b2 : Fin 256 → EReal) (k : Fin 256) : EReal :=
  ramp ((∑ t : Fin 256, a t * W2 k t) + b2 k)

/-- The score. -/
def score (u i : Fin 128 → EReal) (W1 : Fin 256 → Fin 256 → EReal) (b1 : Fin 256 → EReal) (W2 : Fin 256 → Fin 256 → EReal)
    (b2 Wo : Fin 256 → EReal) (bo : EReal) : EReal :=
  (∑ k : Fin 256, Wo k * unit2 (unit1 u i W1 b1) W2 b2 k) + bo

end Cert.Proof.Twin

end
-- ==== Proof.HeadValue.lean ====
/-
  A grid point's row of results over exact values: each entry is the score of its pair of rows.
-/
module

public import proofs.«01_k».proof.Proof.Score
public import proofs.«01_k».proof.Proof.Mlp

@[expose] public section

noncomputable section

namespace Cert.Proof.Twin

open Cert.KernelIdeal Cert.KernelIdeal.Gen
open Idealize.ShloMosaic

/-- Row `r` of a block, and of a matrix with one row. -/
abbrev rowOf {n k : ℕ} (X : (⟨2, ![n, k]⟩ : Shape).Idx → EReal) (r : Fin n) : Fin k → EReal := fun t => X (ix2 r t)

/-- The score of row `r` of the two blocks, before the last bias is added. -/
abbrev scoreOf (u i : Vec Ideal S2048x128 .f32) (W1 : Vec Ideal S256x256 .f32) (b1 : Vec Ideal S1x256 .f32) (W2 : Vec Ideal S256x256 .f32)
    (b2 Wo : Vec Ideal S1x256 .f32) (bo : EReal) (r : Fin 2048) : EReal :=
  score (rowOf u r) (rowOf i r) (rowOf W1) (rowOf b1 0) (rowOf W2) (rowOf b2 0) (rowOf Wo 0) bo

/-- One block's row of scores, but for the last bias. -/
theorem head_at (W1 W2 : Vec Ideal S256x256 .f32) (u i : Vec Ideal S2048x128 .f32) (b1 b2 Wo : Vec Ideal S1x256 .f32) (r : Fin 2048) (bo : EReal) :
    k2_pay2 W1 u i b1 W2 b2 Wo (ix2 0 r) + bo = scoreOf u i W1 b1 W2 b2 Wo bo r := by
  have h : k2_pay2 W1 u i b1 W2 b2 Wo (ix2 0 r)
      = ∑ k : Fin 256, rowOf Wo 0 k * unit2 (unit1 (rowOf u r) (rowOf i r) (rowOf W1) (rowOf b1 0)) (rowOf W2) (rowOf b2 0) k := by
    pointwise [k2_pay2]
    rfl
  rw [h, scoreOf, score]

/-- Two rows of 2048 side by side, and the last bias. -/
def side (x y : FVec Ideal S1x2048 .f32) (bo : FVec Ideal S1x1 .f32) : FVec Ideal S1x4096 .f32 :=
  addf (concatenate S1x4096 1 [⟨S1x2048, x⟩, ⟨S1x2048, y⟩] concatenates_S1x2048_S1x2048_S1x4096_d1)
    (broadcastTo S1x4096 (shapeCast S1x1 bo shapeCasts_S1x1_S1x1) broadcasts_S1x1_S1x4096)

/-- The row of results is the two blocks' scores side by side. -/
theorem outRow_eq (ua ub ia ib : Vec Ideal S2048x128 .f32) (W1 : Vec Ideal S256x256 .f32) (b1 : Vec Ideal S1x256 .f32) (W2 : Vec Ideal S256x256 .f32)
    (b2 Wo : Vec Ideal S1x256 .f32) (bo : Vec Ideal S1x1 .f32) :
    outRow ua ub ia ib W1 b1 W2 b2 Wo bo = side (k2_pay2 W1 ua ia b1 W2 b2 Wo) (k2_pay2 W1 ub ib b1 W2 b2 Wo) bo := rfl

theorem side_left (x y : FVec Ideal S1x2048 .f32) (bo : FVec Ideal S1x1 .f32) (r : Fin 2048) :
    side x y bo (ix2 (0 : Fin 1) (⟨r.val, by omega⟩ : Fin 4096)) = x (ix2 0 r) + bo (ix2 0 0) := by
  pointwise [side]

theorem side_right (x y : FVec Ideal S1x2048 .f32) (bo : FVec Ideal S1x1 .f32) (r : Fin 2048) :
    side x y bo (ix2 (0 : Fin 1) (⟨2048 + r.val, by omega⟩ : Fin 4096)) = y (ix2 0 r) + bo (ix2 0 0) := by
  pointwise [side]

theorem outRow_left (ua ub ia ib : Vec Ideal S2048x128 .f32) (W1 : Vec Ideal S256x256 .f32) (b1 : Vec Ideal S1x256 .f32) (W2 : Vec Ideal S256x256 .f32)
    (b2 Wo : Vec Ideal S1x256 .f32) (bo : Vec Ideal S1x1 .f32) (r : Fin 2048) :
    outRow ua ub ia ib W1 b1 W2 b2 Wo bo (ix2 (0 : Fin 1) (⟨r.val, by omega⟩ : Fin 4096)) = scoreOf ua ia W1 b1 W2 b2 Wo (bo (ix2 0 0)) r := by
  rw [outRow_eq, side_left, head_at]

theorem outRow_right (ua ub ia ib : Vec Ideal S2048x128 .f32) (W1 : Vec Ideal S256x256 .f32) (b1 : Vec Ideal S1x256 .f32) (W2 : Vec Ideal S256x256 .f32)
    (b2 Wo : Vec Ideal S1x256 .f32) (bo : Vec Ideal S1x1 .f32) (r : Fin 2048) :
    outRow ua ub ia ib W1 b1 W2 b2 Wo bo (ix2 (0 : Fin 1) (⟨2048 + r.val, by omega⟩ : Fin 4096)) = scoreOf ub ib W1 b1 W2 b2 Wo (bo (ix2 0 0)) r := by
  rw [outRow_eq, side_right, head_at]

end Cert.Proof.Twin

end
-- ==== Proof.RowValue.lean ====
/-
  A pipeline's results over exact values: entry `q` is the score of row `q` of the users' and the items' rows.
-/
module

public import proofs.«01_k».proof.Proof.HeadValue
public import proofs.«01_k».proof.Proof.RegionValue

@[expose] public section

noncomputable section

namespace Cert.Proof.Twin

open Cert.KernelIdeal Cert.KernelIdeal.Gen
open Idealize.ShloMosaic

/-- Row `y` of rows `2048 s` on is row `2048 s + y`. -/
theorem rowOf_rowsAt (X : Vec Ideal S8192x128 .f32) (s : ℕ) (hs : s < 4) (y : Fin 2048) (q : Fin 8192) (h : q.val = 2048 * s + y.val) :
    rowOf (rowsAt X s hs) y = rowOf X q := by
  funext t
  refine (rowsAt_of_place X s hs (ix2 y t) (ix2 q t) ?_ rfl).symm
  show q.val = s * 2048 + y.val
  omega

theorem outAll_score (U I : Vec Ideal S8192x128 .f32) (W1 : Vec Ideal S256x256 .f32) (b1 : Vec Ideal S1x256 .f32) (W2 : Vec Ideal S256x256 .f32)
    (b2 Wo : Vec Ideal S1x256 .f32) (bo : Vec Ideal S1x1 .f32) (q : Fin 8192) :
    outAll U I W1 b1 W2 b2 Wo bo (ix2 0 q) = score (rowOf U q) (rowOf I q) (rowOf W1) (rowOf b1 0) (rowOf W2) (rowOf b2 0) (rowOf Wo 0) (bo (ix2 0 0)) := by
  have hq := q.isLt
  by_cases hy : q.val % 4096 < 2048
  · rw [outAll_at U I W1 b1 W2 b2 Wo bo (q.val / 4096) (by omega) (ix2 0 q) (ix2 (0 : Fin 1) (⟨q.val % 4096, by omega⟩ : Fin 4096))
      (by show q.val = 4096 * (q.val / 4096) + q.val % 4096; omega)]
    refine (outRow_left _ _ _ _ W1 b1 W2 b2 Wo bo ⟨q.val % 4096, hy⟩).trans ?_
    rw [scoreOf, rowOf_rowsAt U _ _ _ q (by show q.val = 2048 * (2 * (q.val / 4096)) + q.val % 4096; omega),
      rowOf_rowsAt I _ _ _ q (by show q.val = 2048 * (2 * (q.val / 4096)) + q.val % 4096; omega)]
  · have e : q.val % 4096 = 2048 + (q.val % 4096 - 2048) := by omega
    rw [outAll_at U I W1 b1 W2 b2 Wo bo (q.val / 4096) (by omega) (ix2 0 q) (ix2 (0 : Fin 1) (⟨2048 + (q.val % 4096 - 2048), by omega⟩ : Fin 4096))
      (by show q.val = 4096 * (q.val / 4096) + (2048 + (q.val % 4096 - 2048)); omega)]
    refine (outRow_right _ _ _ _ W1 b1 W2 b2 Wo bo ⟨q.val % 4096 - 2048, by omega⟩).trans ?_
    rw [scoreOf, rowOf_rowsAt U _ _ _ q (by show q.val = 2048 * (2 * (q.val / 4096) + 1) + (q.val % 4096 - 2048); omega),
      rowOf_rowsAt I _ _ _ q (by show q.val = 2048 * (2 * (q.val / 4096) + 1) + (q.val % 4096 - 2048); omega)]

end Cert.Proof.Twin

end
-- ==== Proof.RefValue.lean ====
/-
  The reference's result over exact values: each entry is the score of its pair of rows, where the indices are in range.
-/
module

public import proofs.«01_k».proof.Proof.Score
public import proofs.«01_k».proof.Proof.Gen.ReferenceIdeal.Run
public import Idealize.ShloMosaic.Lib.ReduceAll
public import Idealize.ShloMosaic.Lib.WordCmp
public import Idealize.ShloMosaic.Lib.ValueIdxCore

@[expose] public section

noncomputable section

namespace Cert.Proof.Twin.Ref

open Cert.ReferenceIdeal Cert.ReferenceIdeal.Gen Cert.ReferenceIdeal.Value
open Idealize.ShloMosaic
open Idealize.ShloMosaic.TcCoe

/-! ## The result in stages -/

/-- An index below zero counts from the end. -/
def wrapped (x : IVec S16384 32) : IVec S16384 32 :=
  select (cmpi .slt x (broadcastInDim S16384 ![] bcast_S_S16384 (constantI S_ 32 0#32))) (addi x (broadcastInDim S16384 ![] bcast_S_S16384 (constantI S_ 32 100000#32))) x

/-- The indices as a column. -/
def column (x : IVec S16384 32) : IVec S16384x1 32 := broadcastInDim S16384x1 ![0] bcast_S16384_S16384x1_0 (wrapped x)

/-- Which of them name a row of the table. -/
def named (x : IVec S16384 32) : IVec S16384 1 :=
  Host.reduce IntOp.andi (andi (cmpi .sge (column x) (broadcastInDim S16384x1 ![] bcast_S_S16384x1 (constantI S_ 32 0#32)))
    (cmpi .sle (column x) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The rows taken from a table. -/
def taken (x : IVec S16384 32) (W : FVec Ideal S100000x128 .f32) : FVec Ideal S16384x128 .f32 :=
  select (broadcastInDim S16384x128 ![0] bcast_S16384_S16384x128_0 (named x))
    (Host.gather gather_S100000x128_S16384x1_S16384x128_1_0_n_n_0_1_1128 W (column x))
    (broadcastInDim S16384x128 ![] bcast_S_S16384x128 (constant S_ .f32 0x7FC00000#32))

/-- Users' and items' rows side by side. -/
def joined (u i : FVec Ideal S16384x128 .f32) : FVec Ideal S16384x256 .f32 :=
  concatenate S16384x256 1 [⟨S16384x128, u⟩, ⟨S16384x128, i⟩] concatenates_S16384x128_S16384x128_S16384x256_d1

/-- A dense layer before its ramp. -/
def dense (h : FVec Ideal S16384x256 .f32) (W : FVec Ideal S256x256 .f32) (b : FVec Ideal S256 .f32) : FVec Ideal S16384x256 .f32 :=
  addf (Host.dotGeneral dot_S16384x256_S256x256_S16384x256_1_0_0_1_n_n none h (transpose S256x256 [1, 0] W transposes_S256x256_S256x256_1_0))
    (broadcastInDim S16384x256 ![0, 1] bcast_S1x256_S16384x256_0_1 (broadcastInDim S1x256 ![1] bcast_S256_S1x256_1 b))

/-- The ramp. -/
def leaky (a : FVec Ideal S16384x256 .f32) : FVec Ideal S16384x256 .f32 :=
  select (cmpf .oge a (broadcastInDim S16384x256 ![] bcast_S_S16384x256 (constant S_ .f32 0x00000000#32))) a
    (mulf (broadcastInDim S16384x256 ![] bcast_S_S16384x256 (id (constant S_ .f32 0x3C23D70A#32))) a)

/-- The last layer. -/
def final (a : FVec Ideal S16384x256 .f32) (Wo : FVec Ideal S1x256 .f32) (bo : FVec Ideal S1 .f32) : FVec Ideal S16384x1 .f32 :=
  addf (Host.dotGeneral dot_S16384x256_S256x1_S16384x1_1_0_0_1_n_n none a (transpose S256x1 [1, 0] Wo transposes_S1x256_S256x1_1_0))
    (broadcastInDim S16384x1 ![0, 1] bcast_S1x1_S16384x1_0_1 (broadcastInDim S1x1 ![1] bcast_S1_S1x1_1 bo))

theorem result_eq (m : (ℓ : Loc nD τ sig) → Buf (Elt Ideal) ℓ) (c : Dev nD) :
    res_main_v19 m c = final (leaky (dense (leaky (dense (joined
        (taken (m ((c.tc : Thread nD τ).loc main_arg0)) (m ((c.tc : Thread nD τ).loc main_arg2)))
        (taken (m ((c.tc : Thread nD τ).loc main_arg1)) (m ((c.tc : Thread nD τ).loc main_arg3))))
      (m ((c.tc : Thread nD τ).loc main_arg4)) (m ((c.tc : Thread nD τ).loc main_arg5))))
      (m ((c.tc : Thread nD τ).loc main_arg6)) (m ((c.tc : Thread nD τ).loc main_arg7))))
      (m ((c.tc : Thread nD τ).loc main_arg8)) (m ((c.tc : Thread nD τ).loc main_arg9)) := rfl

/-! ## The stages at an index -/

theorem dense_at (h : FVec Ideal S16384x256 .f32) (W : FVec Ideal S256x256 .f32) (b : FVec Ideal S256 .f32) (r : Fin 16384) (k : Fin 256) :
    dense h W b (ix2 r k) = (∑ t : Fin 256, h (ix2 r t) * W (ix2 k t)) + b (ix1 k) := by
  pointwise [dense]

theorem leaky_at (a : FVec Ideal S16384x256 .f32) (r : Fin 16384) (k : Fin 256) : leaky a (ix2 r k) = ramp (a (ix2 r k)) := by
  pointwise [leaky]
  rfl

theorem final_at (a : FVec Ideal S16384x256 .f32) (Wo : FVec Ideal S1x256 .f32) (bo : FVec Ideal S1 .f32) (r : Fin 16384) :
    final a Wo bo (ix2 r 0) = (∑ k : Fin 256, a (ix2 r k) * Wo (ix2 0 k)) + bo (ix1 0) := by
  pointwise [final]

theorem joined_left (u i : FVec Ideal S16384x128 .f32) (r : Fin 16384) (t : Fin 128) : joined u i (ix2 r (⟨t.val, by omega⟩ : Fin 256)) = u (ix2 r t) := by
  pointwise [joined]

theorem joined_right (u i : FVec Ideal S16384x128 .f32) (r : Fin 16384) (t : Fin 128) : joined u i (ix2 r (⟨128 + t.val, by omega⟩ : Fin 256)) = i (ix2 r t) := by
  pointwise [joined]

/-- A sum over 256, in two halves. -/
theorem sum_halves (f : Fin 256 → EReal) : ∑ t : Fin 256, f t = (∑ t : Fin 128, f ⟨t.val, by omega⟩) + ∑ t : Fin 128, f ⟨128 + t.val, by omega⟩ :=
  Fin.sum_univ_add (a := 128) (b := 128) f

/-! ## The rows taken -/

/-- A word below 100000 counts from the start. -/
theorem wrapped_at (x : IVec S16384 32) (j : S16384.Idx) (h : (x j).toNat < 100000) : wrapped x j = x j := by
  have e : IntOp.cmpi .slt (x j) 0#32 = 0#1 := by
    rw [WordCmp.cmpi_slt_zero, WordCmp.ofBool_decide_eq_zero_iff]; omega
  show Scalar.select (IntOp.cmpi .slt (x j) 0#32) _ (x j) = x j
  rw [e]; rfl

theorem column_at (x : IVec S16384 32) (r : Fin 16384) (z : Fin 1) (h : (x (ix1 r)).toNat < 100000) : column x (ix2 r z) = x (ix1 r) := by
  rw [← wrapped_at x (ix1 r) h]
  pointwise [column]

/-- It names a row. -/
theorem named_at (x : IVec S16384 32) (h : ∀ r, (x (ix1 r)).toNat < 100000) (r : Fin 16384) : named x (ix1 r) = 1#1 := by
  refine Host.reduce_andi_one _ _ _ _ _ rfl fun i => ?_
  obtain ⟨a, b, rfl⟩ : ∃ a b, i = ix2 (n0 := 16384) (n1 := 1) a b := ⟨_, _, eq_ix2 (n0 := 16384) (n1 := 1) i⟩
  show IntOp.andi (IntOp.cmpi .sge (column x (ix2 a b)) 0#32) (IntOp.cmpi .sle (column x (ix2 a b)) 99999#32) = 1#1
  have := h a
  rw [column_at x a b this, WordCmp.cmpi_sge_zero, WordCmp.cmpi_sle_of_lt (by omega) (by decide), WordCmp.andi_ofBool, WordCmp.ofBool_eq_one_iff]
  simp
  omega

/-- The gather at an index: the row that the word names, signed and clamped. -/
theorem gather_at (W : FVec Ideal S100000x128 .f32) (idx : IVec S16384x1 32) (r : Fin 16384) (k : Fin 128) :
    Host.gather gather_S100000x128_S16384x1_S16384x128_1_0_n_n_0_1_1128 W idx (ix2 r k)
      = W (ix2 (⟨min (idx (ix2 r 0)).toInt.toNat 99999, by omega⟩ : Fin 100000) k) := by
  unfold Host.gather
  refine congrArg W (funext fun a => Fin.ext ?_)
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S100000x128_S16384x1_S16384x128_1_0_n_n_0_1_1128.startIndexMap from List.mem_singleton.mpr rfl)]
    refine congrArg (fun j => min (idx j).toInt.toNat 99999) (funext fun b => Fin.ext ?_)
    match b with
    | ⟨0, _⟩ => rfl
    | ⟨1, _⟩ => rfl
  | ⟨1, _⟩ =>
    show GatherDims.start _ _ idx 1 + GatherDims.batchCoord _ _ 1 + GatherDims.offCoord _ _ 1 = k.val
    rw [GatherDims.batchCoord_eq_zero _ _ _ List.not_mem_nil]
    unfold GatherDims.start
    rw [dif_neg (by decide)]
    show 0 + 0 + _ = _
    rw [Nat.zero_add]
    rfl

/-- The rows taken, where every word names one. -/
theorem taken_at (x : IVec S16384 32) (W : FVec Ideal S100000x128 .f32) (h : ∀ r, (x (ix1 r)).toNat < 100000) (r : Fin 16384) (k : Fin 128) :
    taken x W (ix2 r k) = W (ix2 (⟨(x (ix1 r)).toNat, h r⟩ : Fin 100000) k) := by
  have hb : broadcastInDim S16384x128 ![0] bcast_S16384_S16384x128_0 (named x) (ix2 r k) = 1#1 := by
    rw [← named_at x h r]; pointwise []
  have e : (x (ix1 r)).toInt.toNat = (x (ix1 r)).toNat := by
    rw [WordCmp.toInt_eq_toNat_of_lt_half (by have := h r; omega)]; rfl
  rw [taken, WordCmp.select_at, hb, WordCmp.select_one, gather_at]
  have e' : min (column x (ix2 r 0)).toInt.toNat 99999 = (x (ix1 r)).toNat := by rw [column_at x r 0 (h r), e]; have := h r; omega
  simp only [e']

/-! ## The result at an index -/

/-- The score of entry `r`: of the two rows that the words there name. -/
def at_row (xu xi : IVec S16384 32) (Wu Wi : FVec Ideal S100000x128 .f32) (W1 : FVec Ideal S256x256 .f32) (b1 : FVec Ideal S256 .f32)
    (W2 : FVec Ideal S256x256 .f32) (b2 : FVec Ideal S256 .f32) (Wo : FVec Ideal S1x256 .f32) (bo : FVec Ideal S1 .f32)
    (hu : ∀ r, (xu (ix1 r)).toNat < 100000) (hi : ∀ r, (xi (ix1 r)).toNat < 100000) (r : Fin 16384) : EReal :=
  score (fun t => Wu (ix2 (⟨(xu (ix1 r)).toNat, hu r⟩ : Fin 100000) t)) (fun t => Wi (ix2 (⟨(xi (ix1 r)).toNat, hi r⟩ : Fin 100000) t))
    (fun k t => W1 (ix2 k t)) (fun k => b1 (ix1 k)) (fun k t => W2 (ix2 k t)) (fun k => b2 (ix1 k)) (fun k => Wo (ix2 0 k)) (bo (ix1 0))

theorem result_at (xu xi : IVec S16384 32) (Wu Wi : FVec Ideal S100000x128 .f32) (W1 : FVec Ideal S256x256 .f32) (b1 : FVec Ideal S256 .f32)
    (W2 : FVec Ideal S256x256 .f32) (b2 : FVec Ideal S256 .f32) (Wo : FVec Ideal S1x256 .f32) (bo : FVec Ideal S1 .f32)
    (hu : ∀ r, (xu (ix1 r)).toNat < 100000) (hi : ∀ r, (xi (ix1 r)).toNat < 100000) (r : Fin 16384) :
    final (leaky (dense (leaky (dense (joined (taken xu Wu) (taken xi Wi)) W1 b1)) W2 b2)) Wo bo (ix2 r 0)
      = at_row xu xi Wu Wi W1 b1 W2 b2 Wo bo hu hi r := by
  rw [final_at, at_row, score]
  refine congrArg (· + bo (ix1 0)) (Finset.sum_congr rfl fun k _ => ?_)
  rw [leaky_at, dense_at, mul_comm, unit2]
  refine congrArg (fun s => Wo (ix2 0 k) * ramp (s + b2 (ix1 k))) (Finset.sum_congr rfl fun t _ => ?_)
  rw [leaky_at, dense_at, sum_halves, unit1]
  refine congrArg (fun s => ramp (s + b1 (ix1 t)) * W2 (ix2 k t)) (congrArg₂ (· + ·) (Finset.sum_congr rfl fun n _ => ?_) (Finset.sum_congr rfl fun n _ => ?_))
  · rw [joined_left, taken_at xu Wu hu]
  · rw [joined_right, taken_at xi Wi hi]

end Cert.Proof.Twin.Ref

end
-- ==== Proof.KernelValue.lean ====
/-
  What the kernel leaves in its result over exact values: entry `r` is the score of the two rows that the words there name.
-/
module

public import proofs.«01_k».proof.Proof.RowValue
public import proofs.«01_k».proof.Proof.RefValue
public import proofs.«01_k».proof.Proof.Frames

@[expose] public section

noncomputable section

namespace Cert.Proof.Twin

open Cert.KernelIdeal Cert.KernelIdeal.Gen
open Idealize.ShloMosaic
open Idealize.ShloMosaic.TcCoe

variable (m : (ℓ : Loc nD τ sig) → Buf (Elt Ideal) ℓ)

/-! ## The host's reshapes and the join -/

theorem V3_biases (d : Dev nD) : V3 m d (bT main_v2) = shapeCast S1x256 (V2 m d (bT main_arg5)) shapeCasts_S256_S1x256
    ∧ V3 m d (bT main_v3) = shapeCast S1x256 (V2 m d (bT main_arg7)) shapeCasts_S256_S1x256
    ∧ V3 m d (bT main_v4) = shapeCast S1x1 (V2 m d (bT main_arg9)) shapeCasts_S1_S1x1 := by
  refine ⟨?_, ?_, ?_⟩ <;> (unfold V3; after_results_simp; rfl)

theorem V5_biases (d : Dev nD) : V5 m d (bT main_v6) = shapeCast S1x256 (V4 m d (bT main_arg5)) shapeCasts_S256_S1x256
    ∧ V5 m d (bT main_v7) = shapeCast S1x256 (V4 m d (bT main_arg7)) shapeCasts_S256_S1x256
    ∧ V5 m d (bT main_v8) = shapeCast S1x1 (V4 m d (bT main_arg9)) shapeCasts_S1_S1x1 := by
  refine ⟨?_, ?_, ?_⟩ <;> (unfold V5; after_results_simp; rfl)

/-- The two pipelines' results end to end, as a column. -/
def asColumn (a b : FVec Ideal S1x8192 .f32) : FVec Ideal S16384x1 .f32 :=
  shapeCast S16384x1 (concatenate S1x16384 1 [⟨S1x8192, a⟩, ⟨S1x8192, b⟩] concatenates_S1x8192_S1x8192_S1x16384_d1) shapeCasts_S1x16384_S16384x1

theorem V7_result (d : Dev nD) : V7 m d (bT main_v11) = asColumn (V6 m d (bT main_v5)) (V6 m d (bT main_v9)) := by
  unfold V7; after_results_simp; rfl

theorem asColumn_left (a b : FVec Ideal S1x8192 .f32) (q : Fin 8192) : asColumn a b (ix2 (⟨q.val, by omega⟩ : Fin 16384) 0) = a (ix2 0 q) := by
  pointwise [asColumn]

theorem asColumn_right (a b : FVec Ideal S1x8192 .f32) (q : Fin 8192) : asColumn a b (ix2 (⟨8192 + q.val, by omega⟩ : Fin 16384) 0) = b (ix2 0 q) := by
  pointwise [asColumn]

theorem asRow_at (b : FVec Ideal S256 .f32) (k : Fin 256) : shapeCast S1x256 b shapeCasts_S256_S1x256 (ix2 0 k) = b (Idealize.ShloMosaic.ix1 k) := by
  pointwise []

theorem asCell_at (b : FVec Ideal S1 .f32) : shapeCast S1x1 b shapeCasts_S1_S1x1 (ix2 0 0) = b (Idealize.ShloMosaic.ix1 0) := by
  pointwise []

/-! ## One pipeline's result -/

/-- A pipeline that reads the rows from `start` on leaves in entry `q` the score of entry `start + q`. -/
theorem pipeline_at (xu xi : IVec S16384 32) (Wu Wi : FVec Ideal S100000x128 .f32) (W1 : FVec Ideal S256x256 .f32) (b1 : FVec Ideal S256 .f32)
    (W2 : FVec Ideal S256x256 .f32) (b2 : FVec Ideal S256 .f32) (Wo : FVec Ideal S1x256 .f32) (bo : FVec Ideal S1 .f32)
    (hu : ∀ r, (xu (Idealize.ShloMosaic.ix1 r)).toNat < 100000) (hi : ∀ r, (xi (Idealize.ShloMosaic.ix1 r)).toNat < 100000)
    (start : ℕ) (h : start + 8192 ≤ 16384) (q : Fin 8192) :
    outAll (F := Ideal) (rows8192 (F := Ideal) xu Wu start h) (rows8192 (F := Ideal) xi Wi start h) W1 (shapeCast S1x256 b1 shapeCasts_S256_S1x256) W2
        (shapeCast S1x256 b2 shapeCasts_S256_S1x256) Wo (shapeCast S1x1 bo shapeCasts_S1_S1x1) (ix2 0 q)
      = Ref.at_row xu xi Wu Wi W1 b1 W2 b2 Wo bo hu hi ⟨start + q.val, by omega⟩ := by
  have row : ∀ (x : IVec S16384 32) (W : FVec Ideal S100000x128 .f32) (hx : ∀ r, (x (Idealize.ShloMosaic.ix1 r)).toNat < 100000),
      rowOf (rows8192 (F := Ideal) x W start h) q
        = fun t => W (ix2 (⟨(x (Idealize.ShloMosaic.ix1 ⟨start + q.val, by omega⟩)).toNat, hx _⟩ : Fin 100000) t) := by
    intro x W hx
    funext t
    have e : Twin.ix1 ⟨start + q.val, by omega⟩ = Idealize.ShloMosaic.ix1 (⟨start + q.val, by omega⟩ : Fin 16384) := by
      funext k; match k with | 0 => rfl
    have er : rowIx (x (Twin.ix1 ⟨start + q.val, by omega⟩)) = ⟨(x (Idealize.ShloMosaic.ix1 ⟨start + q.val, by omega⟩)).toNat, hx _⟩ :=
      Fin.ext (by rw [e]; exact Nat.mod_eq_of_lt (hx _))
    refine congrArg W ?_
    refine (congrArg (fun a => ixT a t) er).trans ?_
    funext k; match k with | 0 => rfl | 1 => rfl
  rw [outAll_score, row xu Wu hu, row xi Wi hi, asCell_at]
  have bias : ∀ b : FVec Ideal S256 .f32, rowOf (shapeCast S1x256 b shapeCasts_S256_S1x256) 0 = fun k => b (Idealize.ShloMosaic.ix1 k) :=
    fun b => funext fun k => asRow_at b k
  rw [bias, bias]
  rfl

/-! ## The whole result -/

/-- What nothing writes is, at every stage that the pipelines read at, as it began. -/
theorem stages_kept (d : Dev nD) (r : Ref sig .tc) (h : r ∉ written) :
    V2 m d (bT r) = m (d, bT r) ∧ V3 m d (bT r) = m (d, bT r) ∧ V4 m d (bT r) = m (d, bT r) ∧ V5 m d (bT r) = m (d, bT r) := by
  simp only [written, List.mem_append, not_or] at h
  obtain ⟨⟨⟨⟨⟨⟨h0, h1⟩, h2⟩, h3⟩, h4⟩, h5⟩, h6⟩ := h
  have e2 : V2 m d (bT r) = m (d, bT r) := (V2_other m d r h1).trans (V1_other m d r h0)
  have e3 := (V3_other m d r h2).trans e2
  have e4 := (V4_other m d r fun e => h3 (List.mem_singleton.mpr e)).trans e3
  exact ⟨e2, e3, e4, (V5_other m d r h4).trans e4⟩

/-- The first pipeline reads the rows that the first call gathered, -/
theorem first_rows (d : Dev nD) : V3 m d (bT main_v0_0) = rows8192 (xuAt m d) (tuAt m d) 0 half0 ∧ V3 m d (bT main_v0_1) = rows8192 (xiAt m d) (tiAt m d) 0 half0 :=
  ⟨(V3_other m d _ (by decide)).trans ((V2_other m d _ (by decide)).trans (V1_outs m d).1),
    (V3_other m d _ (by decide)).trans ((V2_other m d _ (by decide)).trans (V1_outs m d).2)⟩

/-- and the second those of the second call. -/
theorem second_rows (d : Dev nD) : V5 m d (bT main_v1_0) = rows8192 (xuAt m d) (tuAt m d) 8192 half1 ∧ V5 m d (bT main_v1_1) = rows8192 (xiAt m d) (tiAt m d) 8192 half1 :=
  ⟨(V5_other m d _ (by decide)).trans ((V4_other m d _ (by decide)).trans ((V3_other m d _ (by decide)).trans (V2_outs m d).1)),
    (V5_other m d _ (by decide)).trans ((V4_other m d _ (by decide)).trans ((V3_other m d _ (by decide)).trans (V2_outs m d).2))⟩

/-- An argument of the program, as device `d` holds it. -/
abbrev arg (d : Dev nD) (r : Ref sig .tc) : Buf (Elt Ideal) ((d.tc : Thread nD τ).loc r) := m ((d.tc : Thread nD τ).loc r)

/-- The words of a list name rows. -/
def Names (x : IVec S16384 32) : Prop := ∀ r, (x (Idealize.ShloMosaic.ix1 r)).toNat < 100000

theorem kernel_at (d : Dev nD) (hu : Names (arg m d main_arg0)) (hi : Names (arg m d main_arg1)) (r : Fin 16384) :
    V7 m d (bT main_v11) (ix2 r 0)
      = Ref.at_row (arg m d main_arg0) (arg m d main_arg1) (arg m d main_arg2) (arg m d main_arg3) (arg m d main_arg4) (arg m d main_arg5)
          (arg m d main_arg6) (arg m d main_arg7) (arg m d main_arg8) (arg m d main_arg9) hu hi r := by
  have hr := r.isLt
  obtain ⟨a4, b4⟩ := (stages_kept m d main_arg4 (by decide)).2
  obtain ⟨a6, b6⟩ := (stages_kept m d main_arg6 (by decide)).2
  obtain ⟨a8, b8⟩ := (stages_kept m d main_arg8 (by decide)).2
  obtain ⟨a5, -, b5, -⟩ := stages_kept m d main_arg5 (by decide)
  obtain ⟨a7, -, b7, -⟩ := stages_kept m d main_arg7 (by decide)
  obtain ⟨a9, -, b9, -⟩ := stages_kept m d main_arg9 (by decide)
  obtain ⟨p2, p3, p4⟩ := V3_biases m d
  obtain ⟨q2, q3, q4⟩ := V5_biases m d
  rw [a5] at p2; rw [a7] at p3; rw [a9] at p4
  rw [b5] at q2; rw [b7] at q3; rw [b9] at q4
  rw [V7_result]
  by_cases hlt : r.val < 8192
  · refine (asColumn_left _ _ ⟨r.val, hlt⟩).trans ?_
    rw [V6_other m d main_v5 (by decide), V5_other m d main_v5 (by decide), V4_out, (first_rows m d).1, (first_rows m d).2, a4, a6, a8, p2, p3, p4]
    refine (pipeline_at _ _ _ _ _ _ _ _ _ _ hu hi 0 half0 ⟨r.val, hlt⟩).trans ?_
    exact congrArg _ (Fin.ext (Nat.zero_add r.val))
  · have e : r = ⟨8192 + (r.val - 8192), by omega⟩ := Fin.ext (by show r.val = 8192 + (r.val - 8192); omega)
    refine (congrArg (fun s : Fin 16384 => asColumn _ _ (ix2 s 0)) e).trans ((asColumn_right _ _ ⟨r.val - 8192, by omega⟩).trans ?_)
    rw [V6_out, (second_rows m d).1, (second_rows m d).2, b4.2, b6.2, b8.2, q2, q3, q4]
    refine (pipeline_at _ _ _ _ _ _ _ _ _ _ hu hi 8192 half1 ⟨r.val - 8192, by omega⟩).trans ?_
    exact congrArg _ e.symm

end Cert.Proof.Twin

end
-- ==== Proof.Algebraic.lean ====
/-
  Over exact values, and from the same arguments, the kernel and the reference leave the same result.
-/
module

public import proofs.«01_k».proof.Proof.KernelValue
public import proofs.«01_k».proof.Proof.FrameRef

@[expose] public section

noncomputable section

namespace Cert.Proof.Twin

open Idealize.ShloMosaic
open Idealize.ShloMosaic.TcCoe
open Idealize.SL Idealize.SL.Sem
open Cert.KernelIdeal Cert.KernelIdeal.Gen

/-- The two results are one buffer: entry by entry the same score. -/
theorem results_same (m : (ℓ : Loc nD τ sig) → Buf (Elt Ideal) ℓ)
    (m' : (ℓ : Loc Cert.ReferenceIdeal.nD Cert.ReferenceIdeal.τ Cert.ReferenceIdeal.sig) → Buf (Elt Ideal) ℓ) (hpre : PreOK m) (c : Dev nD)
    (h : m' ((c.tc : Thread Cert.ReferenceIdeal.nD Cert.ReferenceIdeal.τ).loc Cert.ReferenceIdeal.main_arg0) = arg m c main_arg0
      ∧ m' ((c.tc : Thread Cert.ReferenceIdeal.nD Cert.ReferenceIdeal.τ).loc Cert.ReferenceIdeal.main_arg1) = arg m c main_arg1
      ∧ m' ((c.tc : Thread Cert.ReferenceIdeal.nD Cert.ReferenceIdeal.τ).loc Cert.ReferenceIdeal.main_arg2) = arg m c main_arg2
      ∧ m' ((c.tc : Thread Cert.ReferenceIdeal.nD Cert.ReferenceIdeal.τ).loc Cert.ReferenceIdeal.main_arg3) = arg m c main_arg3
      ∧ m' ((c.tc : Thread Cert.ReferenceIdeal.nD Cert.ReferenceIdeal.τ).loc Cert.ReferenceIdeal.main_arg4) = arg m c main_arg4
      ∧ m' ((c.tc : Thread Cert.ReferenceIdeal.nD Cert.ReferenceIdeal.τ).loc Cert.ReferenceIdeal.main_arg5) = arg m c main_arg5
      ∧ m' ((c.tc : Thread Cert.ReferenceIdeal.nD Cert.ReferenceIdeal.τ).loc Cert.ReferenceIdeal.main_arg6) = arg m c main_arg6
      ∧ m' ((c.tc : Thread Cert.ReferenceIdeal.nD Cert.ReferenceIdeal.τ).loc Cert.ReferenceIdeal.main_arg7) = arg m c main_arg7
      ∧ m' ((c.tc : Thread Cert.ReferenceIdeal.nD Cert.ReferenceIdeal.τ).loc Cert.ReferenceIdeal.main_arg8) = arg m c main_arg8
      ∧ m' ((c.tc : Thread Cert.ReferenceIdeal.nD Cert.ReferenceIdeal.τ).loc Cert.ReferenceIdeal.main_arg9) = arg m c main_arg9) :
    Cert.ReferenceIdeal.Value.res_main_v19 (F := Ideal) m' c = V7 m c (bT main_v11) := by
  obtain ⟨h0, h1, h2, h3, h4, h5, h6, h7, h8, h9⟩ := h
  have hu : Names (arg m c main_arg0) := fun r => (hpre c _).1
  have hi : Names (arg m c main_arg1) := fun r => (hpre c _).2
  rw [Ref.result_eq, h0, h1, h2, h3, h4, h5, h6, h7, h8, h9]
  refine funext fun (j : S16384x1.Idx) => ?_
  have hj : (show Fin 1 from j 1) = 0 := Subsingleton.elim (α := Fin 1) _ _
  have ej : j = ix2 (show Fin 16384 from j 0) (0 : Fin 1) := (eq_ix2 j).trans (congrArg (ix2 (show Fin 16384 from j 0)) hj)
  rw [ej]
  exact (Ref.result_at _ _ _ _ _ _ _ _ _ _ hu hi _).trans (kernel_at m c hu hi _).symm

theorem algebraic : Cert.algebraic_KernelIdeal_ReferenceIdeal := by
  intro m g m' g' hpre hsame
  have ok := ok_of_pre m hpre
  refine ⟨fun c => V7 m c (bT main_v11), ?_, ?_⟩
  · exact (θ_run (Cert.KernelIdeal.defs (F := Ideal)) _ _).mono
      (fun r h c => ⟨h.1 c _ (mem_uc main_v11 rfl), args_kept m r.2.mem h.1 c⟩) (run_main m g ok)
  · exact (θ_run Cert.ReferenceIdeal.defs _ _).mono
      (fun r h c => ⟨(h c).1.trans (results_same m m' ok c (hsame c)), (h c).2⟩) (Cert.ReferenceIdeal.Value.run (F := Ideal) m' g')

end Cert.Proof.Twin

end
-- ==== Proof.lean ====
/-
  The proof of `Cert.Claim`: the three frames, the ideal program's being the program's own text, and equal results over exact values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.FrameKernel
public import proofs.«01_k».proof.Proof.FrameRef
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts,
  Twin.frame_kernel, Twin.frame_ideal, Twin.frame_ref, Twin.frame_ref_in_range, trivial, Twin.algebraic⟩

end Cert.Proof

end
